-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![4096, 1]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x32 : Shape := ⟨2, ![256, 32]⟩
abbrev S512x1 : Shape := ⟨2, ![512, 1]⟩
abbrev S4x256x512 : Shape := ⟨3, ![4, 256, 512]⟩
abbrev S256x512 : Shape := ⟨2, ![256, 512]⟩
abbrev S512x512 : Shape := ⟨2, ![512, 512]⟩
abbrev S8x256x256 : Shape := ⟨3, ![8, 256, 256]⟩
abbrev S8x256x32 : Shape := ⟨3, ![8, 256, 32]⟩
abbrev S8x256x512 : Shape := ⟨3, ![8, 256, 512]⟩
abbrev S7x256x512 : Shape := ⟨3, ![7, 256, 512]⟩
abbrev S7 : Shape := ⟨1, ![7]⟩
abbrev S_ : Shape := ⟨0, ![]⟩
abbrev S512x32 : Shape := ⟨2, ![512, 32]⟩
abbrev S512 : Shape := ⟨1, ![512]⟩
abbrev S256x256 : Shape := ⟨2, ![256, 256]⟩
abbrev S1x256x256 : Shape := ⟨3, ![1, 256, 256]⟩
abbrev S1x256x32 : Shape := ⟨3, ![1, 256, 32]⟩
abbrev S1x256x512 : Shape := ⟨3, ![1, 256, 512]⟩
abbrev S256x2048 : Shape := ⟨2, ![256, 2048]⟩
abbrev S1 : Shape := ⟨1, ![1]⟩
abbrev S256 : Shape := ⟨1, ![256]⟩
abbrev S256x1 : Shape := ⟨2, ![256, 1]⟩

abbrev nBuf : Space → Nat
  | .hbm => 6
  | .vmem => 16
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x1, .i32⟩
  | .hbm, ⟨3, _⟩ => ⟨S4x256x512, .f32⟩
  | .hbm, ⟨4, _⟩ => ⟨S256x512, .f32⟩
  | .hbm, ⟨5, _⟩ => ⟨S512x512, .f32⟩
  | .local _ .vmem, ⟨0, _⟩ => ⟨S512x256, .f32⟩
  | .local _ .vmem, ⟨1, _⟩ => ⟨S256x32, .f32⟩
  | .local _ .vmem, ⟨2, _⟩ => ⟨S512x1, .i32⟩
  | .local _ .vmem, ⟨3, _⟩ => ⟨S4x256x512, .f32⟩
  | .local _ .vmem, ⟨4, _⟩ => ⟨S256x512, .f32⟩
  | .local _ .vmem, ⟨5, _⟩ => ⟨S512x512, .f32⟩
  | .local _ .vmem, ⟨6, _⟩ => ⟨S8x256x256, .bf16⟩
  | .local _ .vmem, ⟨7, _⟩ => ⟨S8x256x256, .bf16⟩
  | .local _ .vmem, ⟨8, _⟩ => ⟨S8x256x32, .bf16⟩
  | .local _ .vmem, ⟨9, _⟩ => ⟨S8x256x32, .bf16⟩
  | .local _ .vmem, ⟨10, _⟩ => ⟨S8x256x512, .f32⟩
  | .local _ .vmem, ⟨11, _⟩ => ⟨S8x256x512, .f32⟩
  | .local _ .vmem, ⟨12, _⟩ => ⟨S8x256x512, .bf16⟩
  | .local _ .vmem, ⟨13, _⟩ => ⟨S8x256x512, .bf16⟩
  | .local _ .vmem, ⟨14, _⟩ => ⟨S7x256x512, .bf16⟩
  | .local _ .vmem, ⟨15, _⟩ => ⟨S7x256x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 2 → Bool
  | ⟨0, _⟩ => false
  | ⟨1, _⟩ => true
  | _ => false

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  (ofTc nBuf bufTy 2 90 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v54 : Index := Scalar.indexCast v2
  let c0_27 : Index := 0#32
  let c0_28 : Index := 0#32
  ![v54.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v64 : Index := Scalar.indexCast v2
  let c0_31 : Index := 0#32
  let c0_32 : Index := 0#32
  ![v64.toNat, 0, 0]
def k0_off3 (d0 : Dev nD) (c0_i32_38 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v87 : BitVec 32 := Scalar.subi v2 c0_i32_38
  let c8_i32_39 : BitVec 32 := 8#32
  let c0_i32_40 : BitVec 32 := 0#32
  let v88 : BitVec 1 := Scalar.cmpi .eq c8_i32_39 c0_i32_40
  let c1_i32_41 : BitVec 32 := 1#32
  let v89 : BitVec 32 := Scalar.select v88 c1_i32_41 c8_i32_39
  let v90 : BitVec 32 := Scalar.remsi v87 v89
  let c0_i32_43 : BitVec 32 := 0#32
  let v92 : BitVec 1 := Scalar.cmpi .slt v90 c0_i32_43
  let c0_i32_44 : BitVec 32 := 0#32
  let v93 : BitVec 1 := Scalar.cmpi .slt v89 c0_i32_44
  let v94 : BitVec 1 := Scalar.xori v92 v93
  let c0_i32_42 : BitVec 32 := 0#32
  let v91 : BitVec 1 := Scalar.cmpi .ne v90 c0_i32_42
  let v95 : BitVec 1 := Scalar.andi v94 v91
  let v96 : BitVec 32 := Scalar.addi v90 v89
  let v97 : BitVec 32 := Scalar.select v95 v96 v90
  let c0_i32_249 : BitVec 32 := 0#32
  let c0_i32_250 : BitVec 32 := 0#32
  ![v97.toNat, 0, 0]
def k0_dev3 (d0 : Dev nD) : Nat :=
  let c0_i32_248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_247 : BitVec 32 := 1#32
  let v409 : BitVec 32 := Scalar.muli v24 c1_i32_247
  let v410 : BitVec 32 := Scalar.addi c0_i32_248 v409
  v410.toNat
def k0_off4 (d0 : Dev nD) (c0_i32_38 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v87 : BitVec 32 := Scalar.subi v2 c0_i32_38
  let c8_i32_39 : BitVec 32 := 8#32
  let c0_i32_40 : BitVec 32 := 0#32
  let v88 : BitVec 1 := Scalar.cmpi .eq c8_i32_39 c0_i32_40
  let c1_i32_41 : BitVec 32 := 1#32
  let v89 : BitVec 32 := Scalar.select v88 c1_i32_41 c8_i32_39
  let v90 : BitVec 32 := Scalar.remsi v87 v89
  let c0_i32_43 : BitVec 32 := 0#32
  let v92 : BitVec 1 := Scalar.cmpi .slt v90 c0_i32_43
  let c0_i32_44 : BitVec 32 := 0#32
  let v93 : BitVec 1 := Scalar.cmpi .slt v89 c0_i32_44
  let v94 : BitVec 1 := Scalar.xori v92 v93
  let c0_i32_42 : BitVec 32 := 0#32
  let v91 : BitVec 1 := Scalar.cmpi .ne v90 c0_i32_42
  let v95 : BitVec 1 := Scalar.andi v94 v91
  let v96 : BitVec 32 := Scalar.addi v90 v89
  let v97 : BitVec 32 := Scalar.select v95 v96 v90
  let c0_i32_257 : BitVec 32 := 0#32
  let c0_i32_258 : BitVec 32 := 0#32
  ![v97.toNat, 0, 0]
def k0_dev4 (d0 : Dev nD) : Nat :=
  let c0_i32_256 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_255 : BitVec 32 := 1#32
  let v419 : BitVec 32 := Scalar.muli v24 c1_i32_255
  let v420 : BitVec 32 := Scalar.addi c0_i32_256 v419
  v420.toNat
def k0_off5 (d0 : Dev nD) (c0_i32_45 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v98 : BitVec 32 := Scalar.addi v2 c0_i32_45
  let c8_i32_46 : BitVec 32 := 8#32
  let c0_i32_47 : BitVec 32 := 0#32
  let v99 : BitVec 1 := Scalar.cmpi .eq c8_i32_46 c0_i32_47
  let c1_i32_48 : BitVec 32 := 1#32
  let v100 : BitVec 32 := Scalar.select v99 c1_i32_48 c8_i32_46
  let v101 : BitVec 32 := Scalar.remsi v98 v100
  let c0_i32_50 : BitVec 32 := 0#32
  let v103 : BitVec 1 := Scalar.cmpi .slt v101 c0_i32_50
  let c0_i32_51 : BitVec 32 := 0#32
  let v104 : BitVec 1 := Scalar.cmpi .slt v100 c0_i32_51
  let v105 : BitVec 1 := Scalar.xori v103 v104
  let c0_i32_49 : BitVec 32 := 0#32
  let v102 : BitVec 1 := Scalar.cmpi .ne v101 c0_i32_49
  let v106 : BitVec 1 := Scalar.andi v105 v102
  let v107 : BitVec 32 := Scalar.addi v101 v100
  let v108 : BitVec 32 := Scalar.select v106 v107 v101
  let c0_i32_265 : BitVec 32 := 0#32
  let c0_i32_266 : BitVec 32 := 0#32
  ![v108.toNat, 0, 0]
def k0_dev5 (d0 : Dev nD) : Nat :=
  let c0_i32_264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_263 : BitVec 32 := 1#32
  let v429 : BitVec 32 := Scalar.muli v13 c1_i32_263
  let v430 : BitVec 32 := Scalar.addi c0_i32_264 v429
  v430.toNat
def k0_off6 (d0 : Dev nD) (c0_i32_45 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v98 : BitVec 32 := Scalar.addi v2 c0_i32_45
  let c8_i32_46 : BitVec 32 := 8#32
  let c0_i32_47 : BitVec 32 := 0#32
  let v99 : BitVec 1 := Scalar.cmpi .eq c8_i32_46 c0_i32_47
  let c1_i32_48 : BitVec 32 := 1#32
  let v100 : BitVec 32 := Scalar.select v99 c1_i32_48 c8_i32_46
  let v101 : BitVec 32 := Scalar.remsi v98 v100
  let c0_i32_50 : BitVec 32 := 0#32
  let v103 : BitVec 1 := Scalar.cmpi .slt v101 c0_i32_50
  let c0_i32_51 : BitVec 32 := 0#32
  let v104 : BitVec 1 := Scalar.cmpi .slt v100 c0_i32_51
  let v105 : BitVec 1 := Scalar.xori v103 v104
  let c0_i32_49 : BitVec 32 := 0#32
  let v102 : BitVec 1 := Scalar.cmpi .ne v101 c0_i32_49
  let v106 : BitVec 1 := Scalar.andi v105 v102
  let v107 : BitVec 32 := Scalar.addi v101 v100
  let v108 : BitVec 32 := Scalar.select v106 v107 v101
  let c0_i32_273 : BitVec 32 := 0#32
  let c0_i32_274 : BitVec 32 := 0#32
  ![v108.toNat, 0, 0]
def k0_dev6 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_271 : BitVec 32 := 1#32
  let v439 : BitVec 32 := Scalar.muli v13 c1_i32_271
  let v440 : BitVec 32 := Scalar.addi c0_i32_272 v439
  v440.toNat
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v502 : Index := Scalar.indexCast v2
  let c0_295 : Index := 0#32
  let c0_296 : Index := 0#32
  ![v502.toNat, 0, 0]
def k0_dev7 (d0 : Dev nD) : Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_339 : BitVec 32 := 1#32
  let v589 : BitVec 32 := Scalar.muli v24 c1_i32_339
  let v590 : BitVec 32 := Scalar.addi c0_i32_340 v589
  v590.toNat
def k0_dev8 (d0 : Dev nD) : Nat :=
  let c0_i32_348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_347 : BitVec 32 := 1#32
  let v599 : BitVec 32 := Scalar.muli v24 c1_i32_347
  let v600 : BitVec 32 := Scalar.addi c0_i32_348 v599
  v600.toNat
def k0_off8 (d0 : Dev nD) (c0_i32_353 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v609 : BitVec 32 := Scalar.subi v2 c0_i32_353
  let c1_i32_354 : BitVec 32 := 1#32
  let v610 : BitVec 32 := Scalar.subi v609 c1_i32_354
  let c8_i32_355 : BitVec 32 := 8#32
  let c0_i32_356 : BitVec 32 := 0#32
  let v611 : BitVec 1 := Scalar.cmpi .eq c8_i32_355 c0_i32_356
  let c1_i32_357 : BitVec 32 := 1#32
  let v612 : BitVec 32 := Scalar.select v611 c1_i32_357 c8_i32_355
  let v613 : BitVec 32 := Scalar.remsi v610 v612
  let c0_i32_359 : BitVec 32 := 0#32
  let v615 : BitVec 1 := Scalar.cmpi .slt v613 c0_i32_359
  let c0_i32_360 : BitVec 32 := 0#32
  let v616 : BitVec 1 := Scalar.cmpi .slt v612 c0_i32_360
  let v617 : BitVec 1 := Scalar.xori v615 v616
  let c0_i32_358 : BitVec 32 := 0#32
  let v614 : BitVec 1 := Scalar.cmpi .ne v613 c0_i32_358
  let v618 : BitVec 1 := Scalar.andi v617 v614
  let v619 : BitVec 32 := Scalar.addi v613 v612
  let v620 : BitVec 32 := Scalar.select v618 v619 v613
  let v621 : Index := Scalar.indexCast v620
  let c0_361 : Index := 0#32
  let c0_362 : Index := 0#32
  ![v621.toNat, 0, 0]
def k0_off9 (d0 : Dev nD) (c0_i32_353 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v609 : BitVec 32 := Scalar.subi v2 c0_i32_353
  let c1_i32_354 : BitVec 32 := 1#32
  let v610 : BitVec 32 := Scalar.subi v609 c1_i32_354
  let c8_i32_355 : BitVec 32 := 8#32
  let c0_i32_356 : BitVec 32 := 0#32
  let v611 : BitVec 1 := Scalar.cmpi .eq c8_i32_355 c0_i32_356
  let c1_i32_357 : BitVec 32 := 1#32
  let v612 : BitVec 32 := Scalar.select v611 c1_i32_357 c8_i32_355
  let v613 : BitVec 32 := Scalar.remsi v610 v612
  let c0_i32_359 : BitVec 32 := 0#32
  let v615 : BitVec 1 := Scalar.cmpi .slt v613 c0_i32_359
  let c0_i32_360 : BitVec 32 := 0#32
  let v616 : BitVec 1 := Scalar.cmpi .slt v612 c0_i32_360
  let v617 : BitVec 1 := Scalar.xori v615 v616
  let c0_i32_358 : BitVec 32 := 0#32
  let v614 : BitVec 1 := Scalar.cmpi .ne v613 c0_i32_358
  let v618 : BitVec 1 := Scalar.andi v617 v614
  let v619 : BitVec 32 := Scalar.addi v613 v612
  let v620 : BitVec 32 := Scalar.select v618 v619 v613
  let v624 : Index := Scalar.indexCast v620
  let c0_363 : Index := 0#32
  let c0_364 : Index := 0#32
  ![v624.toNat, 0, 0]
def k0_off10 (d0 : Dev nD) (c0_i32_353 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v609 : BitVec 32 := Scalar.subi v2 c0_i32_353
  let c1_i32_354 : BitVec 32 := 1#32
  let v610 : BitVec 32 := Scalar.subi v609 c1_i32_354
  let c8_i32_355 : BitVec 32 := 8#32
  let c0_i32_356 : BitVec 32 := 0#32
  let v611 : BitVec 1 := Scalar.cmpi .eq c8_i32_355 c0_i32_356
  let c1_i32_357 : BitVec 32 := 1#32
  let v612 : BitVec 32 := Scalar.select v611 c1_i32_357 c8_i32_355
  let v613 : BitVec 32 := Scalar.remsi v610 v612
  let c0_i32_359 : BitVec 32 := 0#32
  let v615 : BitVec 1 := Scalar.cmpi .slt v613 c0_i32_359
  let c0_i32_360 : BitVec 32 := 0#32
  let v616 : BitVec 1 := Scalar.cmpi .slt v612 c0_i32_360
  let v617 : BitVec 1 := Scalar.xori v615 v616
  let c0_i32_358 : BitVec 32 := 0#32
  let v614 : BitVec 1 := Scalar.cmpi .ne v613 c0_i32_358
  let v618 : BitVec 1 := Scalar.andi v617 v614
  let v619 : BitVec 32 := Scalar.addi v613 v612
  let v620 : BitVec 32 := Scalar.select v618 v619 v613
  let v674 : Index := Scalar.indexCast v620
  let c0_379 : Index := 0#32
  let c0_380 : Index := 0#32
  ![v674.toNat, 0, 0]
def k0_off11 (d0 : Dev nD) (c0_i32_52 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v109 : BitVec 32 := Scalar.subi v2 c0_i32_52
  let c1_i32_53 : BitVec 32 := 1#32
  let v110 : BitVec 32 := Scalar.subi v109 c1_i32_53
  let c8_i32_54 : BitVec 32 := 8#32
  let c0_i32_55 : BitVec 32 := 0#32
  let v111 : BitVec 1 := Scalar.cmpi .eq c8_i32_54 c0_i32_55
  let c1_i32_56 : BitVec 32 := 1#32
  let v112 : BitVec 32 := Scalar.select v111 c1_i32_56 c8_i32_54
  let v113 : BitVec 32 := Scalar.remsi v110 v112
  let c0_i32_58 : BitVec 32 := 0#32
  let v115 : BitVec 1 := Scalar.cmpi .slt v113 c0_i32_58
  let c0_i32_59 : BitVec 32 := 0#32
  let v116 : BitVec 1 := Scalar.cmpi .slt v112 c0_i32_59
  let v117 : BitVec 1 := Scalar.xori v115 v116
  let c0_i32_57 : BitVec 32 := 0#32
  let v114 : BitVec 1 := Scalar.cmpi .ne v113 c0_i32_57
  let v118 : BitVec 1 := Scalar.andi v117 v114
  let v119 : BitVec 32 := Scalar.addi v113 v112
  let v120 : BitVec 32 := Scalar.select v118 v119 v113
  let c0_i32_390 : BitVec 32 := 0#32
  let c0_i32_391 : BitVec 32 := 0#32
  ![v120.toNat, 0, 0]
def k0_dev9 (d0 : Dev nD) : Nat :=
  let c0_i32_387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_386 : BitVec 32 := 1#32
  let v683 : BitVec 32 := Scalar.muli v24 c1_i32_386
  let v684 : BitVec 32 := Scalar.addi c0_i32_387 v683
  v684.toNat
def k0_dev10 (d0 : Dev nD) : Nat :=
  let c0_i32_411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_410 : BitVec 32 := 1#32
  let v709 : BitVec 32 := Scalar.muli v13 c1_i32_410
  let v710 : BitVec 32 := Scalar.addi c0_i32_411 v709
  v710.toNat
def k0_dev11 (d0 : Dev nD) : Nat :=
  let c0_i32_419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_418 : BitVec 32 := 1#32
  let v719 : BitVec 32 := Scalar.muli v13 c1_i32_418
  let v720 : BitVec 32 := Scalar.addi c0_i32_419 v719
  v720.toNat
def k0_off12 (d0 : Dev nD) (c0_i32_424 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v729 : BitVec 32 := Scalar.addi v2 c0_i32_424
  let c1_i32_425 : BitVec 32 := 1#32
  let v730 : BitVec 32 := Scalar.addi v729 c1_i32_425
  let c8_i32_426 : BitVec 32 := 8#32
  let c0_i32_427 : BitVec 32 := 0#32
  let v731 : BitVec 1 := Scalar.cmpi .eq c8_i32_426 c0_i32_427
  let c1_i32_428 : BitVec 32 := 1#32
  let v732 : BitVec 32 := Scalar.select v731 c1_i32_428 c8_i32_426
  let v733 : BitVec 32 := Scalar.remsi v730 v732
  let c0_i32_430 : BitVec 32 := 0#32
  let v735 : BitVec 1 := Scalar.cmpi .slt v733 c0_i32_430
  let c0_i32_431 : BitVec 32 := 0#32
  let v736 : BitVec 1 := Scalar.cmpi .slt v732 c0_i32_431
  let v737 : BitVec 1 := Scalar.xori v735 v736
  let c0_i32_429 : BitVec 32 := 0#32
  let v734 : BitVec 1 := Scalar.cmpi .ne v733 c0_i32_429
  let v738 : BitVec 1 := Scalar.andi v737 v734
  let v739 : BitVec 32 := Scalar.addi v733 v732
  let v740 : BitVec 32 := Scalar.select v738 v739 v733
  let v741 : Index := Scalar.indexCast v740
  let c0_432 : Index := 0#32
  let c0_433 : Index := 0#32
  ![v741.toNat, 0, 0]
def k0_off13 (d0 : Dev nD) (c0_i32_424 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v729 : BitVec 32 := Scalar.addi v2 c0_i32_424
  let c1_i32_425 : BitVec 32 := 1#32
  let v730 : BitVec 32 := Scalar.addi v729 c1_i32_425
  let c8_i32_426 : BitVec 32 := 8#32
  let c0_i32_427 : BitVec 32 := 0#32
  let v731 : BitVec 1 := Scalar.cmpi .eq c8_i32_426 c0_i32_427
  let c1_i32_428 : BitVec 32 := 1#32
  let v732 : BitVec 32 := Scalar.select v731 c1_i32_428 c8_i32_426
  let v733 : BitVec 32 := Scalar.remsi v730 v732
  let c0_i32_430 : BitVec 32 := 0#32
  let v735 : BitVec 1 := Scalar.cmpi .slt v733 c0_i32_430
  let c0_i32_431 : BitVec 32 := 0#32
  let v736 : BitVec 1 := Scalar.cmpi .slt v732 c0_i32_431
  let v737 : BitVec 1 := Scalar.xori v735 v736
  let c0_i32_429 : BitVec 32 := 0#32
  let v734 : BitVec 1 := Scalar.cmpi .ne v733 c0_i32_429
  let v738 : BitVec 1 := Scalar.andi v737 v734
  let v739 : BitVec 32 := Scalar.addi v733 v732
  let v740 : BitVec 32 := Scalar.select v738 v739 v733
  let v744 : Index := Scalar.indexCast v740
  let c0_434 : Index := 0#32
  let c0_435 : Index := 0#32
  ![v744.toNat, 0, 0]
def k0_off14 (d0 : Dev nD) (c0_i32_424 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v729 : BitVec 32 := Scalar.addi v2 c0_i32_424
  let c1_i32_425 : BitVec 32 := 1#32
  let v730 : BitVec 32 := Scalar.addi v729 c1_i32_425
  let c8_i32_426 : BitVec 32 := 8#32
  let c0_i32_427 : BitVec 32 := 0#32
  let v731 : BitVec 1 := Scalar.cmpi .eq c8_i32_426 c0_i32_427
  let c1_i32_428 : BitVec 32 := 1#32
  let v732 : BitVec 32 := Scalar.select v731 c1_i32_428 c8_i32_426
  let v733 : BitVec 32 := Scalar.remsi v730 v732
  let c0_i32_430 : BitVec 32 := 0#32
  let v735 : BitVec 1 := Scalar.cmpi .slt v733 c0_i32_430
  let c0_i32_431 : BitVec 32 := 0#32
  let v736 : BitVec 1 := Scalar.cmpi .slt v732 c0_i32_431
  let v737 : BitVec 1 := Scalar.xori v735 v736
  let c0_i32_429 : BitVec 32 := 0#32
  let v734 : BitVec 1 := Scalar.cmpi .ne v733 c0_i32_429
  let v738 : BitVec 1 := Scalar.andi v737 v734
  let v739 : BitVec 32 := Scalar.addi v733 v732
  let v740 : BitVec 32 := Scalar.select v738 v739 v733
  let v794 : Index := Scalar.indexCast v740
  let c0_450 : Index := 0#32
  let c0_451 : Index := 0#32
  ![v794.toNat, 0, 0]
def k0_off15 (d0 : Dev nD) (c0_i32_60 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v121 : BitVec 32 := Scalar.addi v2 c0_i32_60
  let c1_i32_61 : BitVec 32 := 1#32
  let v122 : BitVec 32 := Scalar.addi v121 c1_i32_61
  let c8_i32_62 : BitVec 32 := 8#32
  let c0_i32_63 : BitVec 32 := 0#32
  let v123 : BitVec 1 := Scalar.cmpi .eq c8_i32_62 c0_i32_63
  let c1_i32_64 : BitVec 32 := 1#32
  let v124 : BitVec 32 := Scalar.select v123 c1_i32_64 c8_i32_62
  let v125 : BitVec 32 := Scalar.remsi v122 v124
  let c0_i32_66 : BitVec 32 := 0#32
  let v127 : BitVec 1 := Scalar.cmpi .slt v125 c0_i32_66
  let c0_i32_67 : BitVec 32 := 0#32
  let v128 : BitVec 1 := Scalar.cmpi .slt v124 c0_i32_67
  let v129 : BitVec 1 := Scalar.xori v127 v128
  let c0_i32_65 : BitVec 32 := 0#32
  let v126 : BitVec 1 := Scalar.cmpi .ne v125 c0_i32_65
  let v130 : BitVec 1 := Scalar.andi v129 v126
  let v131 : BitVec 32 := Scalar.addi v125 v124
  let v132 : BitVec 32 := Scalar.select v130 v131 v125
  let c0_i32_461 : BitVec 32 := 0#32
  let c0_i32_462 : BitVec 32 := 0#32
  ![v132.toNat, 0, 0]
def k0_dev12 (d0 : Dev nD) : Nat :=
  let c0_i32_458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_457 : BitVec 32 := 1#32
  let v803 : BitVec 32 := Scalar.muli v13 c1_i32_457
  let v804 : BitVec 32 := Scalar.addi c0_i32_458 v803
  v804.toNat
def k0_dev13 (d0 : Dev nD) : Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_481 : BitVec 32 := 1#32
  let v829 : BitVec 32 := Scalar.muli v24 c1_i32_481
  let v830 : BitVec 32 := Scalar.addi c0_i32_482 v829
  v830.toNat
def k0_dev14 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_489 : BitVec 32 := 1#32
  let v839 : BitVec 32 := Scalar.muli v24 c1_i32_489
  let v840 : BitVec 32 := Scalar.addi c0_i32_490 v839
  v840.toNat
def k0_dev15 (d0 : Dev nD) : Nat :=
  let c0_i32_547 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_546 : BitVec 32 := 1#32
  let v947 : BitVec 32 := Scalar.muli v24 c1_i32_546
  let v948 : BitVec 32 := Scalar.addi c0_i32_547 v947
  v948.toNat
def k0_dev16 (d0 : Dev nD) : Nat :=
  let c0_i32_571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_570 : BitVec 32 := 1#32
  let v973 : BitVec 32 := Scalar.muli v13 c1_i32_570
  let v974 : BitVec 32 := Scalar.addi c0_i32_571 v973
  v974.toNat
def k0_dev17 (d0 : Dev nD) : Nat :=
  let c0_i32_579 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_578 : BitVec 32 := 1#32
  let v983 : BitVec 32 := Scalar.muli v13 c1_i32_578
  let v984 : BitVec 32 := Scalar.addi c0_i32_579 v983
  v984.toNat
def k0_dev18 (d0 : Dev nD) : Nat :=
  let c0_i32_636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_635 : BitVec 32 := 1#32
  let v1091 : BitVec 32 := Scalar.muli v13 c1_i32_635
  let v1092 : BitVec 32 := Scalar.addi c0_i32_636 v1091
  v1092.toNat
def k0_dev19 (d0 : Dev nD) : Nat :=
  let c0_i32_660 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_659 : BitVec 32 := 1#32
  let v1117 : BitVec 32 := Scalar.muli v24 c1_i32_659
  let v1118 : BitVec 32 := Scalar.addi c0_i32_660 v1117
  v1118.toNat
def k0_dev20 (d0 : Dev nD) : Nat :=
  let c0_i32_668 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_667 : BitVec 32 := 1#32
  let v1127 : BitVec 32 := Scalar.muli v24 c1_i32_667
  let v1128 : BitVec 32 := Scalar.addi c0_i32_668 v1127
  v1128.toNat
def k0_dev21 (d0 : Dev nD) : Nat :=
  let c0_i32_724 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_723 : BitVec 32 := 1#32
  let v1235 : BitVec 32 := Scalar.muli v24 c1_i32_723
  let v1236 : BitVec 32 := Scalar.addi c0_i32_724 v1235
  v1236.toNat
def k0_dev22 (d0 : Dev nD) : Nat :=
  let c0_i32_748 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_747 : BitVec 32 := 1#32
  let v1261 : BitVec 32 := Scalar.muli v13 c1_i32_747
  let v1262 : BitVec 32 := Scalar.addi c0_i32_748 v1261
  v1262.toNat
def k0_dev23 (d0 : Dev nD) : Nat :=
  let c0_i32_756 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_755 : BitVec 32 := 1#32
  let v1271 : BitVec 32 := Scalar.muli v13 c1_i32_755
  let v1272 : BitVec 32 := Scalar.addi c0_i32_756 v1271
  v1272.toNat
def k0_dev24 (d0 : Dev nD) : Nat :=
  let c0_i32_813 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_812 : BitVec 32 := 1#32
  let v1379 : BitVec 32 := Scalar.muli v13 c1_i32_812
  let v1380 : BitVec 32 := Scalar.addi c0_i32_813 v1379
  v1380.toNat
def k0_dev25 (d0 : Dev nD) : Nat :=
  let c0_i32_837 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_836 : BitVec 32 := 1#32
  let v1405 : BitVec 32 := Scalar.muli v24 c1_i32_836
  let v1406 : BitVec 32 := Scalar.addi c0_i32_837 v1405
  v1406.toNat
def k0_dev26 (d0 : Dev nD) : Nat :=
  let c0_i32_845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_844 : BitVec 32 := 1#32
  let v1415 : BitVec 32 := Scalar.muli v24 c1_i32_844
  let v1416 : BitVec 32 := Scalar.addi c0_i32_845 v1415
  v1416.toNat
def k0_dev27 (d0 : Dev nD) : Nat :=
  let c0_i32_901 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_900 : BitVec 32 := 1#32
  let v1523 : BitVec 32 := Scalar.muli v24 c1_i32_900
  let v1524 : BitVec 32 := Scalar.addi c0_i32_901 v1523
  v1524.toNat
def k0_dev28 (d0 : Dev nD) : Nat :=
  let c0_i32_925 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_924 : BitVec 32 := 1#32
  let v1549 : BitVec 32 := Scalar.muli v13 c1_i32_924
  let v1550 : BitVec 32 := Scalar.addi c0_i32_925 v1549
  v1550.toNat
def k0_dev29 (d0 : Dev nD) : Nat :=
  let c0_i32_933 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_932 : BitVec 32 := 1#32
  let v1559 : BitVec 32 := Scalar.muli v13 c1_i32_932
  let v1560 : BitVec 32 := Scalar.addi c0_i32_933 v1559
  v1560.toNat
def k0_dev30 (d0 : Dev nD) : Nat :=
  let c0_i32_990 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_989 : BitVec 32 := 1#32
  let v1667 : BitVec 32 := Scalar.muli v13 c1_i32_989
  let v1668 : BitVec 32 := Scalar.addi c0_i32_990 v1667
  v1668.toNat
def k0_dev31 (d0 : Dev nD) : Nat :=
  let c0_i32_1014 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1013 : BitVec 32 := 1#32
  let v1693 : BitVec 32 := Scalar.muli v24 c1_i32_1013
  let v1694 : BitVec 32 := Scalar.addi c0_i32_1014 v1693
  v1694.toNat
def k0_dev32 (d0 : Dev nD) : Nat :=
  let c0_i32_1022 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1021 : BitVec 32 := 1#32
  let v1703 : BitVec 32 := Scalar.muli v24 c1_i32_1021
  let v1704 : BitVec 32 := Scalar.addi c0_i32_1022 v1703
  v1704.toNat
def k0_dev33 (d0 : Dev nD) : Nat :=
  let c0_i32_1078 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1077 : BitVec 32 := 1#32
  let v1811 : BitVec 32 := Scalar.muli v24 c1_i32_1077
  let v1812 : BitVec 32 := Scalar.addi c0_i32_1078 v1811
  v1812.toNat
def k0_dev34 (d0 : Dev nD) : Nat :=
  let c0_i32_1102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1101 : BitVec 32 := 1#32
  let v1837 : BitVec 32 := Scalar.muli v13 c1_i32_1101
  let v1838 : BitVec 32 := Scalar.addi c0_i32_1102 v1837
  v1838.toNat
def k0_dev35 (d0 : Dev nD) : Nat :=
  let c0_i32_1110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1109 : BitVec 32 := 1#32
  let v1847 : BitVec 32 := Scalar.muli v13 c1_i32_1109
  let v1848 : BitVec 32 := Scalar.addi c0_i32_1110 v1847
  v1848.toNat
def k0_dev36 (d0 : Dev nD) : Nat :=
  let c0_i32_1167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1166 : BitVec 32 := 1#32
  let v1955 : BitVec 32 := Scalar.muli v13 c1_i32_1166
  let v1956 : BitVec 32 := Scalar.addi c0_i32_1167 v1955
  v1956.toNat
def k0_dev37 (d0 : Dev nD) : Nat :=
  let c0_i32_1191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1190 : BitVec 32 := 1#32
  let v1981 : BitVec 32 := Scalar.muli v24 c1_i32_1190
  let v1982 : BitVec 32 := Scalar.addi c0_i32_1191 v1981
  v1982.toNat
def k0_dev38 (d0 : Dev nD) : Nat :=
  let c0_i32_1199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1198 : BitVec 32 := 1#32
  let v1991 : BitVec 32 := Scalar.muli v24 c1_i32_1198
  let v1992 : BitVec 32 := Scalar.addi c0_i32_1199 v1991
  v1992.toNat
def k0_dev39 (d0 : Dev nD) : Nat :=
  let c0_i32_1255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1254 : BitVec 32 := 1#32
  let v2099 : BitVec 32 := Scalar.muli v24 c1_i32_1254
  let v2100 : BitVec 32 := Scalar.addi c0_i32_1255 v2099
  v2100.toNat
def k0_dev40 (d0 : Dev nD) : Nat :=
  let c0_i32_1279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1278 : BitVec 32 := 1#32
  let v2125 : BitVec 32 := Scalar.muli v13 c1_i32_1278
  let v2126 : BitVec 32 := Scalar.addi c0_i32_1279 v2125
  v2126.toNat
def k0_dev41 (d0 : Dev nD) : Nat :=
  let c0_i32_1287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1286 : BitVec 32 := 1#32
  let v2135 : BitVec 32 := Scalar.muli v13 c1_i32_1286
  let v2136 : BitVec 32 := Scalar.addi c0_i32_1287 v2135
  v2136.toNat
def k0_dev42 (d0 : Dev nD) : Nat :=
  let c0_i32_1344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1343 : BitVec 32 := 1#32
  let v2243 : BitVec 32 := Scalar.muli v13 c1_i32_1343
  let v2244 : BitVec 32 := Scalar.addi c0_i32_1344 v2243
  v2244.toNat
def k0_dev43 (d0 : Dev nD) : Nat :=
  let c0_i32_1416 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1415 : BitVec 32 := 1#32
  let v2367 : BitVec 32 := Scalar.muli v24 c1_i32_1415
  let v2368 : BitVec 32 := Scalar.addi c0_i32_1416 v2367
  v2368.toNat
def k0_dev44 (d0 : Dev nD) : Nat :=
  let c0_i32_1489 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1488 : BitVec 32 := 1#32
  let v2491 : BitVec 32 := Scalar.muli v13 c1_i32_1488
  let v2492 : BitVec 32 := Scalar.addi c0_i32_1489 v2491
  v2492.toNat
def k0_dev45 (d0 : Dev nD) : Nat :=
  let c0_i32_1838_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1837_r0 : BitVec 32 := 1#32
  let v2794_r0 : BitVec 32 := Scalar.muli v13 c1_i32_1837_r0
  let v2795_r0 : BitVec 32 := Scalar.addi c0_i32_1838_r0 v2794_r0
  v2795_r0.toNat
def k0_dev46 (d0 : Dev nD) : Nat :=
  let c0_i32_1841_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1840_r0 : BitVec 32 := 1#32
  let v2796_r0 : BitVec 32 := Scalar.muli v24 c1_i32_1840_r0
  let v2797_r0 : BitVec 32 := Scalar.addi c0_i32_1841_r0 v2796_r0
  v2797_r0.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x256 : Shape := ⟨2, ![4096, 256]⟩
abbrev S256x32 : Shape := ⟨2, ![256, 32]⟩
abbrev S4096x1 : Shape := ⟨2, ![4096, 1]⟩
abbrev S32x256x512 : Shape := ⟨3, ![32, 256, 512]⟩
abbrev S256x512 : Shape := ⟨2, ![256, 512]⟩
abbrev S4096x32 : Shape := ⟨2, ![4096, 32]⟩
abbrev S_ : Shape := ⟨0, ![]⟩
abbrev S4096 : Shape := ⟨1, ![4096]⟩
abbrev S32 : Shape := ⟨1, ![32]⟩
abbrev S1x32 : Shape := ⟨2, ![1, 32]⟩
abbrev S4096x32x512 : Shape := ⟨3, ![4096, 32, 512]⟩
abbrev S4096x512 : Shape := ⟨2, ![4096, 512]⟩
abbrev S4096x32x1 : Shape := ⟨3, ![4096, 32, 1]⟩

abbrev nBuf : Space → Nat
  | .hbm => 34
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x32, .f32⟩
  | .hbm, ⟨2, _⟩ => ⟨S4096x1, .i32⟩
  | .hbm, ⟨3, _⟩ => ⟨S32x256x512, .f32⟩
  | .hbm, ⟨4, _⟩ => ⟨S256x512, .f32⟩
  | .hbm, ⟨5, _⟩ => ⟨S4096x32, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x32, .f32⟩
  | .hbm, ⟨10, _⟩ => ⟨S4096x32, .f32⟩
  | .hbm, ⟨11, _⟩ => ⟨S4096x32, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S4096x32, .f32⟩
  | .hbm, ⟨16, _⟩ => ⟨S4096x32, .f32⟩
  | .hbm, ⟨17, _⟩ => ⟨S32, .i32⟩
  | .hbm, ⟨18, _⟩ => ⟨S1x32, .i32⟩
  | .hbm, ⟨19, _⟩ => ⟨S4096x32, .i32⟩
  | .hbm, ⟨20, _⟩ => ⟨S4096x32, .i32⟩
  | .hbm, ⟨21, _⟩ => ⟨S4096x32, .i1⟩
  | .hbm, ⟨22, _⟩ => ⟨S_, .f32⟩
  | .hbm, ⟨23, _⟩ => ⟨S_, .f32⟩
  | .hbm, ⟨24, _⟩ => ⟨S4096x32, .f32⟩
  | .hbm, ⟨25, _⟩ => ⟨S4096x32, .f32⟩
  | .hbm, ⟨26, _⟩ => ⟨S4096x32x512, .f32⟩
  | .hbm, ⟨27, _⟩ => ⟨S4096x512, .f32⟩
  | .hbm, ⟨28, _⟩ => ⟨S4096x32x1, .f32⟩
  | .hbm, ⟨29, _⟩ => ⟨S4096x32x512, .f32⟩
  | .hbm, ⟨30, _⟩ => ⟨S4096x32x512, .f32⟩
  | .hbm, ⟨31, _⟩ => ⟨S_, .f32⟩
  | .hbm, ⟨32, _⟩ => ⟨S4096x512, .f32⟩
  | .hbm, ⟨33, _⟩ => ⟨S4096x512, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Proof.Stages.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

/-! # The kernel's body as two rings of equal stages

The printed body runs the same stage fourteen times: seven in each direction round the ring.  Here the stage is
written once, over the direction `b` (`true`: towards the right neighbour) and the stage number `s`, and the printed
body is shown to be the sequence of its instances. -/

@[expose] public section

noncomputable section

namespace Cert.MoE

open Cert.KernelIdeal Cert.KernelIdeal.Gen
open Idealize.ShloMosaic
open Idealize.ShloMosaic.TcCoe
open Idealize.SL.Sem

variable {F : FTy → Type} [FloatOps F]

/-! ## Buffers and semaphores by direction -/

/-- The gathered tokens of direction `b`. -/
def xaM (b : Bool) : Memref sig .tc .vmem S8x256x256 .bf16 := match b with | true => Memref.whole cc0_scratch0 | false => Memref.whole cc0_scratch1
/-- The gathered gates. -/
def ohM (b : Bool) : Memref sig .tc .vmem S8x256x32 .bf16 := match b with | true => Memref.whole cc0_scratch2 | false => Memref.whole cc0_scratch3
/-- The accumulated partial results. -/
def acM (b : Bool) : Memref sig .tc .vmem S8x256x512 .f32 := match b with | true => Memref.whole cc0_scratch4 | false => Memref.whole cc0_scratch5
/-- The rounded partial results, as sent. -/
def abM (b : Bool) : Memref sig .tc .vmem S8x256x512 .bf16 := match b with | true => Memref.whole cc0_scratch6 | false => Memref.whole cc0_scratch7
/-- The partial results received. -/
def cmM (b : Bool) : Memref sig .tc .vmem S7x256x512 .bf16 := match b with | true => Memref.whole cc0_scratch8 | false => Memref.whole cc0_scratch9

/-- The tokens' buffer is named whole. -/
theorem xaM_whole (b : Bool) : (xaM b).IsWhole := by cases b <;> exact Memref.isWhole_whole _
/-- The gates' buffer is named whole. -/
theorem ohM_whole (b : Bool) : (ohM b).IsWhole := by cases b <;> exact Memref.isWhole_whole _
/-- The sums' buffer is named whole. -/
theorem acM_whole (b : Bool) : (acM b).IsWhole := by cases b <;> exact Memref.isWhole_whole _
/-- The buffer of sums to send is named whole. -/
theorem abM_whole (b : Bool) : (abM b).IsWhole := by cases b <;> exact Memref.isWhole_whole _
/-- The arrivals' buffer is named whole. -/
theorem cmM_whole (b : Bool) : (cmM b).IsWhole := by cases b <;> exact Memref.isWhole_whole _

/-- The first semaphore of the array of kind `i` (tokens sent, received; gates sent, received; partial results sent,
    received) in direction `b`. -/
def semBase (b : Bool) (i : Fin 6) : ℕ := 6 + 42 * (match b with | true => 0 | false => 1) + 7 * i.val
/-- The counters of each kind lie among the ninety. -/
theorem semBase_le (b : Bool) (i : Fin 6) : semBase b i + S7.numel ≤ 90 := by revert b i; decide
/-- A step's counter lies within its array. -/
theorem inb_S7 (k : Fin 7) : ∀ a, (![k.val] : Fin 1 → Nat) a + S1.size a ≤ S7.size a := by revert k; decide

/-- Semaphore `k` of kind `i` in direction `b`. -/
def dsem (b : Bool) (i : Fin 6) (k : Fin 7) : DmaSems sig S_ :=
  ((SemArray.consecutive (semBase b i) S7 (semBase_le b i) : DmaSems sig S7).slice (Rect.unit (s := S7) ![k.val] S1.size (inb_S7 k))).squeeze S_ squeezes_S1_S_

/-- The barrier semaphore and the one the body allocates for its exit. -/
abbrev barS : Sem sig := (SemArray.scalar (sig.barrier 0 rfl) : Sems sig S_).sem
abbrev finS : Sem sig := cc0_scoped0.sem

/-! ## Slots' offsets as the body computes them -/

/-- Slot sent at transfer `k`, tokens; -/
def xsO (b : Bool) (d : Dev nD) (k : Fin 7) : Fin 3 → ℕ := match b with | true => k0_off3 d (BitVec.ofNat 32 k.val) | false => k0_off5 d (BitVec.ofNat 32 k.val)
/-- gates; -/
def osO (b : Bool) (d : Dev nD) (k : Fin 7) : Fin 3 → ℕ := match b with | true => k0_off4 d (BitVec.ofNat 32 k.val) | false => k0_off6 d (BitVec.ofNat 32 k.val)
/-- the slot worked on at stage `s`, tokens; -/
def xwO (b : Bool) (d : Dev nD) (s : Fin 7) : Fin 3 → ℕ := match b with | true => k0_off8 d (BitVec.ofNat 32 s.val) | false => k0_off12 d (BitVec.ofNat 32 s.val)
/-- gates; -/
def owO (b : Bool) (d : Dev nD) (s : Fin 7) : Fin 3 → ℕ := match b with | true => k0_off9 d (BitVec.ofNat 32 s.val) | false => k0_off13 d (BitVec.ofNat 32 s.val)
/-- partial results; -/
def awO (b : Bool) (d : Dev nD) (s : Fin 7) : Fin 3 → ℕ := match b with | true => k0_off10 d (BitVec.ofNat 32 s.val) | false => k0_off14 d (BitVec.ofNat 32 s.val)
/-- partial results sent. -/
def rsO (b : Bool) (d : Dev nD) (s : Fin 7) : Fin 3 → ℕ := match b with | true => k0_off11 d (BitVec.ofNat 32 s.val) | false => k0_off15 d (BitVec.ofNat 32 s.val)

/-- The tokens sent lie within their buffer. -/
theorem xsO_inb (b : Bool) (d : Dev nD) (k : Fin 7) : ∀ a, xsO b d k a + S1x256x256.size a ≤ S8x256x256.size a := by
  cases b; exacts [k0_off5_inb d k, k0_off3_inb d k]
/-- The gates sent lie within their buffer. -/
theorem osO_inb (b : Bool) (d : Dev nD) (k : Fin 7) : ∀ a, osO b d k a + S1x256x32.size a ≤ S8x256x32.size a := by
  cases b; exacts [k0_off6_inb d k, k0_off4_inb d k]
/-- The tokens read lie within their buffer. -/
theorem xwO_inb (b : Bool) (d : Dev nD) (k : Fin 7) : ∀ a, xwO b d k a + S1x256x256.size a ≤ S8x256x256.size a := by
  cases b; exacts [k0_off12_inb d k, k0_off8_inb d k]
/-- The gates read lie within their buffer. -/
theorem owO_inb (b : Bool) (d : Dev nD) (k : Fin 7) : ∀ a, owO b d k a + S1x256x32.size a ≤ S8x256x32.size a := by
  cases b; exacts [k0_off13_inb d k, k0_off9_inb d k]
/-- The sums written lie within their buffer. -/
theorem awO_inb (b : Bool) (d : Dev nD) (k : Fin 7) : ∀ a, awO b d k a + S1x256x512.size a ≤ S8x256x512.size a := by
  cases b; exacts [k0_off14_inb d k, k0_off10_inb d k]
/-- The sums sent lie within their buffer. -/
theorem rsO_inb (b : Bool) (d : Dev nD) (k : Fin 7) : ∀ a, rsO b d k a + S1x256x512.size a ≤ S8x256x512.size a := by
  cases b; exacts [k0_off15_inb d k, k0_off11_inb d k]
/-- The arrivals lie within their buffer. -/
theorem cmO_inb (k : Fin 7) : ∀ a, (![k.val, 0, 0] : Fin 3 → Nat) a + S1x256x512.size a ≤ S7x256x512.size a := by revert k; decide

/-- The tokens sent are whole words. -/
theorem xsO_words (b : Bool) (d : Dev nD) (k : Fin 7) :
    (Rect.unit (s := S8x256x256) (xsO b d k) S1x256x256.size (xsO_inb b d k)).WholeWords (EltTy.packing .bf16) := by
  cases b; exacts [k0_off5_wordsbf16 d k, k0_off3_wordsbf16 d k]
/-- The gates sent are whole words. -/
theorem osO_words (b : Bool) (d : Dev nD) (k : Fin 7) :
    (Rect.unit (s := S8x256x32) (osO b d k) S1x256x32.size (osO_inb b d k)).WholeWords (EltTy.packing .bf16) := by
  cases b; exacts [k0_off6_wordsbf16 d k, k0_off4_wordsbf16 d k]
/-- The sums sent are whole words. -/
theorem rsO_words (b : Bool) (d : Dev nD) (k : Fin 7) :
    (Rect.unit (s := S8x256x512) (rsO b d k) S1x256x512.size (rsO_inb b d k)).WholeWords (EltTy.packing .bf16) := by
  cases b; exacts [k0_off15_wordsbf16 d k, k0_off11_wordsbf16 d k]
/-- The sums written are whole packed rows. -/
theorem awO_packed (b : Bool) (d : Dev nD) (k : Fin 7) :
    (Rect.unit (s := S8x256x512) (awO b d k) S1x256x512.size (awO_inb b d k)).PackedRows (EltTy.packing .bf16) := by
  cases b; exacts [k0_off14_packedbf16 d k, k0_off10_packedbf16 d k]
/-- The arrivals are whole words. -/
theorem cmO_words (k : Fin 7) :
    (Rect.unit (s := S7x256x512) ![k.val, 0, 0] S1x256x512.size (cmO_inb k)).WholeWords (EltTy.packing .bf16) := by
  fin_cases k
  exacts [wordsbf16_S7x256x512_S1x256x512_0_0_0, wordsbf16_S7x256x512_S1x256x512_1_0_0, wordsbf16_S7x256x512_S1x256x512_2_0_0,
    wordsbf16_S7x256x512_S1x256x512_3_0_0, wordsbf16_S7x256x512_S1x256x512_4_0_0, wordsbf16_S7x256x512_S1x256x512_5_0_0,
    wordsbf16_S7x256x512_S1x256x512_6_0_0]

/-! ## The memrefs transferred -/

abbrev xsM (b : Bool) (d : Dev nD) (k : Fin 7) : Memref sig .tc .vmem S256x256 .bf16 :=
  ((xaM b).slice (Rect.unit (s := S8x256x256) (xsO b d k) S1x256x256.size (xsO_inb b d k)) (fun _ => rfl)).squeeze S256x256 squeezes_S1x256x256_S256x256
abbrev osM (b : Bool) (d : Dev nD) (k : Fin 7) : Memref sig .tc .vmem S256x32 .bf16 :=
  ((ohM b).slice (Rect.unit (s := S8x256x32) (osO b d k) S1x256x32.size (osO_inb b d k)) (fun _ => rfl)).squeeze S256x32 squeezes_S1x256x32_S256x32
abbrev rsM (b : Bool) (d : Dev nD) (k : Fin 7) : Memref sig .tc .vmem S256x512 .bf16 :=
  ((abM b).slice (Rect.unit (s := S8x256x512) (rsO b d k) S1x256x512.size (rsO_inb b d k)) (fun _ => rfl)).squeeze S256x512 squeezes_S1x256x512_S256x512
abbrev cmS (b : Bool) (k : Fin 7) : Memref sig .tc .vmem S256x512 .bf16 :=
  ((cmM b).slice (Rect.unit (s := S7x256x512) ![k.val, 0, 0] S1x256x512.size (cmO_inb k)) (fun _ => rfl)).squeeze S256x512 squeezes_S1x256x512_S256x512

/-- A copy of tokens moves exactly its words. -/
theorem xsM_exact (b : Bool) (d : Dev nD) (k : Fin 7) : (xsM b d k).view.WordExact := ((xaM_whole b).wordExact_slice rfl _ (xsO_words b d k)).reshape _ _
/-- A copy of gates moves exactly its words. -/
theorem osM_exact (b : Bool) (d : Dev nD) (k : Fin 7) : (osM b d k).view.WordExact := ((ohM_whole b).wordExact_slice rfl _ (osO_words b d k)).reshape _ _
/-- A copy of sums moves exactly its words, -/
theorem rsM_exact (b : Bool) (d : Dev nD) (k : Fin 7) : (rsM b d k).view.WordExact := ((abM_whole b).wordExact_slice rfl _ (rsO_words b d k)).reshape _ _
/-- and so does its arrival. -/
theorem cmS_exact (b : Bool) (k : Fin 7) : (cmS b k).view.WordExact := ((cmM_whole b).wordExact_slice rfl _ (cmO_words k)).reshape _ _

/-! ## Payloads -/

abbrev e0w (d : Dev nD) : BitVec 32 := Scalar.muli (Scalar.remsi (Scalar.divsi (Dev.word d) 1#32) 8#32) 4#32
abbrev lanes : IVec S256x32 32 := iota .tc S256x32 32 [1] iota_S256x32_d1_w32

/-- Device `d`'s four experts' part of the results of the tokens `x` with gates `o`, `w` its experts' weights side by side; -/
def hAcc (d : Dev nD) (w : FVec F S256x2048 .bf16) (x : Vec F S1x256x256 .bf16) (o : Vec F S1x256x32 .bf16) : FVec F S1x256x512 .f32 :=
  k0_pay14 (e0w d) lanes (k0_pay10 o) (k0_pay11 w x) (k0_pay12 w (e0w d) lanes x o) (Scalar.addi (e0w d) 1#32)
/-- the same rounded. -/
def hAb (d : Dev nD) (w : FVec F S256x2048 .bf16) (x : Vec F S1x256x256 .bf16) (o : Vec F S1x256x32 .bf16) : FVec F S1x256x512 .bf16 :=
  k0_pay15 (e0w d) lanes (k0_pay10 o) (k0_pay11 w x) (k0_pay12 w (e0w d) lanes x o) (Scalar.addi (e0w d) 1#32)
/-- The part received added on; -/
def pAcc (a : Vec F S1x256x512 .f32) (r : Vec F S1x256x512 .bf16) : FVec F S1x256x512 .f32 := k0_pay47 a r
/-- the same rounded. -/
def pAb (a : Vec F S1x256x512 .f32) (r : Vec F S1x256x512 .bf16) : FVec F S1x256x512 .bf16 := k0_pay48 a r

/-! ## The pieces of a stage, each before the rest `k` of the body -/

abbrev Pg (F : FTy → Type) [FloatOps F] : Type 1 := Prog (TpuEff nD τ sig (Elt F) Λ₀ .tc) PUnit

/-- Wait for arrival (`i = 1`, `3`) or departure (`i = 0`, `2`) of transfer `t`'s tokens and gates. -/
def waitAg (d : Dev nD) (b : Bool) (i j : Fin 6) (t : Fin 7) (k : Pg F) : Pg F :=
  .op (.waitDma2 (dsem b i t).sem (xsM b d t) (xsM b d t) (xsM_exact b d t) (xsM_exact b d t)) fun _ =>
  .op (.waitDma2 (dsem b j t).sem (osM b d t) (osM b d t) (osM_exact b d t) (osM_exact b d t)) fun _ => k

/-- Start transfer `t` of tokens and gates, to `nx` and `no`. -/
def sendAg (d : Dev nD) (b : Bool) (t : Fin 7) (nx no : Dev nD) (k : Pg F) : Pg F :=
  .op (.enqueueDma (xsM b d t) (.remote (Dev.tc nx) (xsM b d t) (.dma (dsem b 0 t).sem)) (.dma (dsem b 1 t).sem) (xsM_exact b d t) (xsM_exact b d t) ⟨⟨rfl, Or.inl rfl⟩, trivial⟩) fun _ =>
  .op (.enqueueDma (osM b d t) (.remote (Dev.tc no) (osM b d t) (.dma (dsem b 2 t).sem)) (.dma (dsem b 3 t).sem) (osM_exact b d t) (osM_exact b d t) ⟨⟨rfl, Or.inl rfl⟩, trivial⟩) fun _ => k

/-- Store the part of a slot's results, both plain and rounded, at offset `o`. -/
def stAcc (b : Bool) (o : Fin 3 → ℕ) (ho : ∀ a, o a + S1x256x512.size a ≤ S8x256x512.size a)
    (hp : (Rect.unit (s := S8x256x512) o S1x256x512.size ho).PackedRows (EltTy.packing .bf16))
    (v : FVec F S1x256x512 .f32) (w : FVec F S1x256x512 .bf16) (k : Pg F) : Pg F :=
  .op (.load (acM b) (Rect.unit (s := S8x256x512) o S1x256x512.size ho).toLoadRect (View.loadsAt_vmem h_S1x256x512)) fun _ =>
  .op (.store (acM b) (Rect.unit (s := S8x256x512) o S1x256x512.size ho) v Finset.univ (View.stores_vmem_bits_univ h_S1x256x512 rfl) (.inl rfl)) fun _ =>
  .op (.load (abM b) (Rect.unit (s := S8x256x512) o S1x256x512.size ho).toLoadRect (View.loadsAt_vmem h_S1x256x512)) fun _ =>
  .op (.store (abM b) (Rect.unit (s := S8x256x512) o S1x256x512.size ho) w Finset.univ (View.stores_vmem h_S1x256x512 ((abM_whole b).storeExact_slice rfl _ hp) (fun _ => rfl)) (.inl rfl)) fun _ => k

/-- Work out device `d`'s part for stage `s`'s slot. -/
def compute (d : Dev nD) (b : Bool) (s : Fin 7) (w : FVec F S256x2048 .bf16) (k : Pg F) : Pg F :=
  .op (.load (xaM b) (Rect.unit (s := S8x256x256) (xwO b d s) S1x256x256.size (xwO_inb b d s)).toLoadRect (View.loadsAt_vmem h_S1x256x256)) fun x =>
  .op (.load (ohM b) (Rect.unit (s := S8x256x32) (owO b d s) S1x256x32.size (owO_inb b d s)).toLoadRect (View.loadsAt_vmem h_S1x256x32)) fun o =>
  stAcc b (awO b d s) (awO_inb b d s) (awO_packed b d s) (hAcc d w x o) (hAb d w x o) k

/-- The same for the device's own slot. -/
def computeOwn (d : Dev nD) (b : Bool) (w : FVec F S256x2048 .bf16) (k : Pg F) : Pg F :=
  .op (.load (xaM b) (Rect.unit (s := S8x256x256) (k0_off1 d) S1x256x256.size (k0_off1_inb d)).toLoadRect (View.loadsAt_vmem h_S1x256x256)) fun x =>
  .op (.load (ohM b) (Rect.unit (s := S8x256x32) (k0_off2 d) S1x256x32.size (k0_off2_inb d)).toLoadRect (View.loadsAt_vmem h_S1x256x32)) fun o =>
  stAcc b (k0_off7 d) (k0_off7_inb d) (k0_off7_packedbf16 d) (hAcc d w x o) (hAb d w x o) k

/-- Wait for the partial result sent at stage `p`. -/
def waitRs (d : Dev nD) (b : Bool) (p : Fin 7) (k : Pg F) : Pg F :=
  .op (.waitDma2 (dsem b 5 p).sem (rsM b d p) (cmS b p) (rsM_exact b d p) (cmS_exact b p)) fun _ => k

/-- Add the partial result received at stage `p` onto stage `s`'s slot. -/
def addRs (d : Dev nD) (b : Bool) (p s : Fin 7) (k : Pg F) : Pg F :=
  .op (.load (acM b) (Rect.unit (s := S8x256x512) (awO b d s) S1x256x512.size (awO_inb b d s)).toLoadRect (View.loadsAt_vmem h_S1x256x512)) fun a =>
  .op (.load (cmM b) (Rect.unit (s := S7x256x512) ![p.val, 0, 0] S1x256x512.size (cmO_inb p)).toLoadRect (View.loadsAt_vmem h_S1x256x512)) fun r =>
  stAcc b (awO b d s) (awO_inb b d s) (awO_packed b d s) (pAcc a r) (pAb a r) k

/-- Send stage `s`'s partial result on. -/
def sendRs (d : Dev nD) (b : Bool) (s : Fin 7) (nx : Dev nD) (k : Pg F) : Pg F :=
  .op (.enqueueDma (rsM b d s) (.remote (Dev.tc nx) (cmS b s) (.dma (dsem b 4 s).sem)) (.dma (dsem b 5 s).sem) (rsM_exact b d s) (cmS_exact b s) ⟨⟨rfl, Or.inl rfl⟩, trivial⟩) fun _ => k

/-- Wait for its departure. -/
def waitRsSent (d : Dev nD) (b : Bool) (s : Fin 7) (k : Pg F) : Pg F :=
  .op (.waitDma2 (dsem b 4 s).sem (cmS b s) (rsM b d s) (cmS_exact b s) (rsM_exact b d s)) fun _ => k

/-- The first stage of a direction; -/
def stage0 (d : Dev nD) (b : Bool) (n1 n2 n3 : Dev nD) (w : FVec F S256x2048 .bf16) (k : Pg F) : Pg F :=
  waitAg d b 1 3 0 <| sendAg d b 1 n1 n2 <| compute d b 0 w <| sendRs d b 0 n3 k
/-- a stage `s` between, `p` the one before it and `t` the one after; -/
def stageMid (d : Dev nD) (b : Bool) (p s t : Fin 7) (n1 n2 n3 : Dev nD) (w : FVec F S256x2048 .bf16) (k : Pg F) : Pg F :=
  waitAg d b 1 3 s <| sendAg d b t n1 n2 <| compute d b s w <| waitRs d b p <| addRs d b p s <| sendRs d b s n3 k
/-- the last stage. -/
def stageEnd (d : Dev nD) (b : Bool) (n3 : Dev nD) (w : FVec F S256x2048 .bf16) (k : Pg F) : Pg F :=
  waitAg d b 1 3 6 <| compute d b 6 w <| waitRs d b 5 <| addRs d b 5 6 <| sendRs d b 6 n3 k

/-- All departures of transfer `s`. -/
def sentAll (d : Dev nD) (s : Fin 7) (k : Pg F) : Pg F :=
  waitAg d true 0 2 s <| waitAg d false 0 2 s <| waitRsSent d true s <| waitRsSent d false s k

/-- Store `v` into the device's own slot of a buffer of tokens; -/
def stX (d : Dev nD) (b : Bool) (v : FVec F S1x256x256 .bf16) (k : Pg F) : Pg F :=
  .op (.load (xaM b) (Rect.unit (s := S8x256x256) (k0_off1 d) S1x256x256.size (k0_off1_inb d)).toLoadRect (View.loadsAt_vmem h_S1x256x256)) fun _ =>
  .op (.store (xaM b) (Rect.unit (s := S8x256x256) (k0_off1 d) S1x256x256.size (k0_off1_inb d)) v Finset.univ (View.stores_vmem h_S1x256x256 ((xaM_whole b).storeExact_slice rfl _ (k0_off1_packedbf16 d)) (fun _ => rfl)) (.inl rfl)) fun _ => k
/-- of gates. -/
def stO (d : Dev nD) (b : Bool) (v : FVec F S1x256x32 .bf16) (k : Pg F) : Pg F :=
  .op (.load (ohM b) (Rect.unit (s := S8x256x32) (k0_off2 d) S1x256x32.size (k0_off2_inb d)).toLoadRect (View.loadsAt_vmem h_S1x256x32)) fun _ =>
  .op (.store (ohM b) (Rect.unit (s := S8x256x32) (k0_off2 d) S1x256x32.size (k0_off2_inb d)) v Finset.univ (View.stores_vmem h_S1x256x32 ((ohM_whole b).storeExact_slice rfl _ (k0_off2_packedbf16 d)) (fun _ => rfl)) (.inl rfl)) fun _ => k

/-- Load a whole staged operand. -/
abbrev xM : Memref sig .tc .vmem S512x256 .f32 := Memref.whole cc0_stg0_0
abbrev rwM : Memref sig .tc .vmem S256x32 .f32 := Memref.whole cc0_stg1_0
abbrev ixM : Memref sig .tc .vmem S512x1 .i32 := Memref.whole cc0_stg2_0
abbrev ewM : Memref sig .tc .vmem S4x256x512 .f32 := Memref.whole cc0_stg3_0
abbrev swM : Memref sig .tc .vmem S256x512 .f32 := Memref.whole cc0_stg4_0
abbrev outM : Memref sig .tc .vmem S512x512 .f32 := Memref.whole cc0_stg5_0

/-- Write the half of the result at offset `o`: `f` of the own slot's partial result and the one received last. -/
def finish (d : Dev nD) (b : Bool) (o : Fin 2 → ℕ) (ho : ∀ a, o a + S256x512.size a ≤ S512x512.size a)
    (f : Vec F S1x256x512 .f32 → Vec F S1x256x512 .bf16 → FVec F S256x512 .f32) (k : Pg F) : Pg F :=
  .op (.load (acM b) (Rect.unit (s := S8x256x512) (k0_off7 d) S1x256x512.size (k0_off7_inb d)).toLoadRect (View.loadsAt_vmem h_S1x256x512)) fun a =>
  .op (.load (cmM b) (Rect.unit (s := S7x256x512) ![(6 : Fin 7).val, 0, 0] S1x256x512.size (cmO_inb 6)).toLoadRect (View.loadsAt_vmem h_S1x256x512)) fun r =>
  .op (.load outM (Rect.unit (s := S512x512) o S256x512.size ho).toLoadRect (View.loadsAt_vmem h_S256x512)) fun _ =>
  .op (.store outM (Rect.unit (s := S512x512) o S256x512.size ho) (f a r) Finset.univ (View.stores_vmem_bits_univ h_S256x512 rfl) (.inl rfl)) fun _ => k

/-- One unit to each neighbour, then two units waited for. -/
def meet (s : Sem sig) (n1 n2 : Dev nD) (k : Pg F) : Pg F :=
  .op (.semSignal (n1, .tc) s 1) fun _ => .op (.semSignal (n2, .tc) s 1) fun _ => .op (.semWait s 2) fun _ => k

end Cert.MoE
-- ==== Proof.Body.lean ====
module

public import proofs.«01_k».proof.Proof.Stages

/-! # The printed body is the sequence of the stages -/

@[expose] public section

noncomputable section

namespace Cert.MoE

open Cert.KernelIdeal Cert.KernelIdeal.Gen
open Idealize.ShloMosaic
open Idealize.ShloMosaic.TcCoe
open Idealize.SL.Sem

variable {F : FTy → Type} [FloatOps F]

/-- The devices the body computes, in its order. -/
def devs (d : Dev nD) : Fin 46 → Dev nD :=
  ![⟨k0_dev1 d, k0_dev1_lt d⟩, ⟨k0_dev2 d, k0_dev2_lt d⟩, ⟨k0_dev3 d, k0_dev3_lt d⟩, ⟨k0_dev4 d, k0_dev4_lt d⟩, ⟨k0_dev5 d, k0_dev5_lt d⟩, ⟨k0_dev6 d, k0_dev6_lt d⟩,
    ⟨k0_dev7 d, k0_dev7_lt d⟩, ⟨k0_dev8 d, k0_dev8_lt d⟩, ⟨k0_dev9 d, k0_dev9_lt d⟩, ⟨k0_dev10 d, k0_dev10_lt d⟩, ⟨k0_dev11 d, k0_dev11_lt d⟩, ⟨k0_dev12 d, k0_dev12_lt d⟩,
    ⟨k0_dev13 d, k0_dev13_lt d⟩, ⟨k0_dev14 d, k0_dev14_lt d⟩, ⟨k0_dev15 d, k0_dev15_lt d⟩, ⟨k0_dev16 d, k0_dev16_lt d⟩, ⟨k0_dev17 d, k0_dev17_lt d⟩, ⟨k0_dev18 d, k0_dev18_lt d⟩,
    ⟨k0_dev19 d, k0_dev19_lt d⟩, ⟨k0_dev20 d, k0_dev20_lt d⟩, ⟨k0_dev21 d, k0_dev21_lt d⟩, ⟨k0_dev22 d, k0_dev22_lt d⟩, ⟨k0_dev23 d, k0_dev23_lt d⟩, ⟨k0_dev24 d, k0_dev24_lt d⟩,
    ⟨k0_dev25 d, k0_dev25_lt d⟩, ⟨k0_dev26 d, k0_dev26_lt d⟩, ⟨k0_dev27 d, k0_dev27_lt d⟩, ⟨k0_dev28 d, k0_dev28_lt d⟩, ⟨k0_dev29 d, k0_dev29_lt d⟩, ⟨k0_dev30 d, k0_dev30_lt d⟩,
    ⟨k0_dev31 d, k0_dev31_lt d⟩, ⟨k0_dev32 d, k0_dev32_lt d⟩, ⟨k0_dev33 d, k0_dev33_lt d⟩, ⟨k0_dev34 d, k0_dev34_lt d⟩, ⟨k0_dev35 d, k0_dev35_lt d⟩, ⟨k0_dev36 d, k0_dev36_lt d⟩,
    ⟨k0_dev37 d, k0_dev37_lt d⟩, ⟨k0_dev38 d, k0_dev38_lt d⟩, ⟨k0_dev39 d, k0_dev39_lt d⟩, ⟨k0_dev40 d, k0_dev40_lt d⟩, ⟨k0_dev41 d, k0_dev41_lt d⟩, ⟨k0_dev42 d, k0_dev42_lt d⟩,
    ⟨k0_dev43 d, k0_dev43_lt d⟩, ⟨k0_dev44 d, k0_dev44_lt d⟩, ⟨k0_dev45 d, k0_dev45_lt d⟩, ⟨k0_dev46 d, k0_dev46_lt d⟩]

/-- The stages. -/
def stages (d : Dev nD) (n : Fin 46 → Dev nD) (w : FVec F S256x2048 .bf16) (k : Pg F) : Pg F :=
  stage0 d true (n 6) (n 7) (n 8) w <| stage0 d false (n 9) (n 10) (n 11) w <|
  stageMid d true 0 1 2 (n 12) (n 13) (n 14) w <| stageMid d false 0 1 2 (n 15) (n 16) (n 17) w <|
  stageMid d true 1 2 3 (n 18) (n 19) (n 20) w <| stageMid d false 1 2 3 (n 21) (n 22) (n 23) w <|
  stageMid d true 2 3 4 (n 24) (n 25) (n 26) w <| stageMid d false 2 3 4 (n 27) (n 28) (n 29) w <|
  stageMid d true 3 4 5 (n 30) (n 31) (n 32) w <| stageMid d false 3 4 5 (n 33) (n 34) (n 35) w <|
  stageMid d true 4 5 6 (n 36) (n 37) (n 38) w <| stageMid d false 4 5 6 (n 39) (n 40) (n 41) w <|
  stageEnd d true (n 42) w <| stageEnd d false (n 43) w <|
  waitRs d true 6 <| waitRs d false 6 k

/-- The body after the entry barrier, `n` the devices addressed. -/
def work (d : Dev nD) (n : Fin 46 → Dev nD) (k : Pg F) : Pg F :=
  .op (.load xM (Rect.unit (s := S512x256) ![0, 0] S512x256.size inb_S512x256_S512x256_0_0).toLoadRect (View.loadsAt_vmem h_S512x256)) fun x =>
  .op (.load rwM (Rect.unit (s := S256x32) ![0, 0] S256x32.size inb_S256x32_S256x32_0_0).toLoadRect (View.loadsAt_vmem h_S256x32)) fun rw =>
  .op (.load ixM (Rect.unit (s := S512x1) ![0, 0] S512x1.size inb_S512x1_S512x1_0_0).toLoadRect (View.loadsAt_vmem h_S512x1)) fun ix =>
  stX d true (k0_pay4 x) <| stX d false (k0_pay5 x) <| stO d true (k0_pay6 x rw ix) <| stO d false (k0_pay8 (k0_pay7 x rw ix)) <|
  .op (.load ewM (Rect.unit (s := S4x256x512) ![0, 0, 0] S4x256x512.size inb_S4x256x512_S4x256x512_0_0_0).toLoadRect (View.loadsAt_vmem h_S4x256x512)) fun ew =>
  sendAg d true 0 (n 2) (n 3) <| sendAg d false 0 (n 4) (n 5) <|
  computeOwn d true (k0_pay9 ew) <| computeOwn d false (k0_pay9 ew) <|
  stages d n (k0_pay9 ew) <|
  .op (.load swM (Rect.unit (s := S256x512) ![0, 0] S256x512.size inb_S256x512_S256x512_0_0).toLoadRect (View.loadsAt_vmem h_S256x512)) fun sw =>
  finish d true ![0, 0] inb_S512x512_S256x512_0_0 (fun a r => k0_pay162 (k0_pay1 x) (k0_pay161 sw) a r) <|
  finish d false ![256, 0] inb_S512x512_S256x512_256_0 (fun a r => k0_pay163 (k0_pay1 x) (k0_pay161 sw) a r) <|
  sentAll d 0 <| sentAll d 1 <| sentAll d 2 <| sentAll d 3 <| sentAll d 4 <| sentAll d 5 <| sentAll d 6 k

/-- The whole body. -/
def body (n : Dev nD → Fin 46 → Dev nD) : Pg F :=
  .op .deviceId fun d => meet barS (n d 0) (n d 1) <| work d (n d) <| meet finS (n d 44) (n d 45) (.ret ⟨⟩)

set_option maxRecDepth 65536 in
/-- The printed body, at its operands, is the sequence of the stages. -/
theorem body_eq : cc0_body_skel (F := F) xM (Memref.isWhole_whole _) rwM (Memref.isWhole_whole _) ixM (Memref.isWhole_whole _) ewM (Memref.isWhole_whole _)
    swM (Memref.isWhole_whole _) outM (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    (Memref.whole cc0_scratch8) (Memref.isWhole_whole _) (Memref.whole cc0_scratch9) (Memref.isWhole_whole _)
    cc0_scratch10 cc0_scratch11 cc0_scratch12 cc0_scratch13 cc0_scratch14 cc0_scratch15 cc0_scratch16 cc0_scratch17 cc0_scratch18 cc0_scratch19 cc0_scratch20 cc0_scratch21 cc0_scoped0
    = body devs := by
  chain_rfl

end Cert.MoE
-- ==== Proof.Protocol.lean ====
module

public import proofs.«01_k».proof.Proof.Body
public import Idealize.ShloMosaic.Lib.StableHlo.CollectiveRules

/-! # The protocol of the two rings

Device `d` passes tokens and gates on to `nx b d` in direction `b`: at transfer `k` the slot `sl b d k`, so that it
receives the slot `jn b d k`.  Every transfer has its own pair of semaphores, used once; the schedule says what each
hands over. -/

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The rings -/

/-- The neighbour in direction `b`: the right one for `true`. -/
def nx (b : Bool) (d : Dev nD) : Dev nD := ⟨(d.val + (if b then 1 else 7)) % 8, Nat.mod_lt _ (by decide)⟩
/-- The slot sent at transfer `k` in direction `b`; -/
def sl (b : Bool) (d : Dev nD) (k : ℕ) : Dev nD := ⟨(d.val + (if b then 7 else 1) * k) % 8, Nat.mod_lt _ (by decide)⟩
/-- the slot received. -/
def jn (b : Bool) (d : Dev nD) (k : ℕ) : Dev nD := sl b (nx (!b) d) k

/-- The next device one way round and then the other is the same device; -/
theorem nx_nx (b : Bool) (d : Dev nD) : nx b (nx (!b) d) = d := by revert b d; decide
/-- and in the other order. -/
theorem nx_nx' (b : Bool) (d : Dev nD) : nx (!b) (nx b d) = d := by revert b d; decide
/-- The next device's join of a step is one's own send of that step. -/
theorem jn_nx (b : Bool) (d : Dev nD) (k : ℕ) : jn b (nx b d) k = sl b d k := by unfold jn; rw [nx_nx']
/-- The first slot sent is one's own. -/
theorem sl_zero (b : Bool) (d : Dev nD) : sl b d 0 = d := by revert b d; decide
/-- The slot sent next is the one just received. -/
theorem sl_succ (b : Bool) (d : Dev nD) (k : ℕ) : sl b d (k + 1) = jn b d k := by
  apply Fin.ext
  cases b <;> simp only [sl, jn, nx, Bool.not_true, Bool.not_false, if_true, Bool.false_eq_true, if_false] <;> omega

/-- Which neighbour each of the body's devices is. -/
def dirs (i : Fin 46) : Bool := ![false, true, true, true, false, false,
  true, true, true, false, false, false, true, true, true, false, false, false, true, true, true, false, false, false,
  true, true, true, false, false, false, true, true, true, false, false, false, true, true, true, false, false, false,
  true, false, false, true] i

set_option maxRecDepth 20000 in
/-- The four devices that the body names are its neighbours. -/
theorem devs_eq (d : Dev nD) : devs d = fun i => nx (dirs i) d := by
  funext i; revert d i; decide +kernel

set_option maxRecDepth 20000 in
/-- Where the tokens' copy starts: the slot sent. -/
theorem xsO_eq (b : Bool) (d : Dev nD) (k : Fin 7) : xsO b d k = ![(sl b d k.val).val, 0, 0] := by revert b d k; decide +kernel
set_option maxRecDepth 20000 in
/-- Where the gates' copy starts: the slot sent. -/
theorem osO_eq (b : Bool) (d : Dev nD) (k : Fin 7) : osO b d k = ![(sl b d k.val).val, 0, 0] := by revert b d k; decide +kernel
set_option maxRecDepth 20000 in
/-- Where the received tokens are read: the slot joined. -/
theorem xwO_eq (b : Bool) (d : Dev nD) (k : Fin 7) : xwO b d k = ![(jn b d k.val).val, 0, 0] := by revert b d k; decide +kernel
set_option maxRecDepth 20000 in
/-- Where the received gates are read: the slot joined. -/
theorem owO_eq (b : Bool) (d : Dev nD) (k : Fin 7) : owO b d k = ![(jn b d k.val).val, 0, 0] := by revert b d k; decide +kernel
set_option maxRecDepth 20000 in
/-- Where the partial sum is kept: the slot joined. -/
theorem awO_eq (b : Bool) (d : Dev nD) (k : Fin 7) : awO b d k = ![(jn b d k.val).val, 0, 0] := by revert b d k; decide +kernel
set_option maxRecDepth 20000 in
/-- Where the sums' copy starts: the slot joined. -/
theorem rsO_eq (b : Bool) (d : Dev nD) (k : Fin 7) : rsO b d k = ![(jn b d k.val).val, 0, 0] := by revert b d k; decide +kernel

/-! ## Slots -/

/-- A slot of tokens lies within its buffer. -/
theorem x_inb (j : Dev nD) : ∀ a, (![j.val, 0, 0] : Fin 3 → ℕ) a + S1x256x256.size a ≤ S8x256x256.size a := by revert j; decide
/-- A slot of gates lies within its buffer. -/
theorem o_inb (j : Dev nD) : ∀ a, (![j.val, 0, 0] : Fin 3 → ℕ) a + S1x256x32.size a ≤ S8x256x32.size a := by revert j; decide
/-- A slot of sums lies within its buffer. -/
theorem a_inb (j : Dev nD) : ∀ a, (![j.val, 0, 0] : Fin 3 → ℕ) a + S1x256x512.size a ≤ S8x256x512.size a := by revert j; decide

abbrev xR (j : Dev nD) : Rect S8x256x256 := Rect.unit (s := S8x256x256) ![j.val, 0, 0] S1x256x256.size (x_inb j)
abbrev oR (j : Dev nD) : Rect S8x256x32 := Rect.unit (s := S8x256x32) ![j.val, 0, 0] S1x256x32.size (o_inb j)
abbrev aR (j : Dev nD) : Rect S8x256x512 := Rect.unit (s := S8x256x512) ![j.val, 0, 0] S1x256x512.size (a_inb j)
abbrev cR (k : Fin 7) : Rect S7x256x512 := Rect.unit (s := S7x256x512) ![k.val, 0, 0] S1x256x512.size (cmO_inb k)

/-- Slot `j` of the tokens, of the gates, of the partial results, of the rounded ones; slot `k` of the received ones. -/
abbrev xS (b : Bool) (j : Dev nD) : Memref sig .tc .vmem S1x256x256 .bf16 := (xaM b).slice (xR j) (fun _ => rfl)
abbrev oS (b : Bool) (j : Dev nD) : Memref sig .tc .vmem S1x256x32 .bf16 := (ohM b).slice (oR j) (fun _ => rfl)
abbrev aS (b : Bool) (j : Dev nD) : Memref sig .tc .vmem S1x256x512 .f32 := (acM b).slice (aR j) (fun _ => rfl)
abbrev bS (b : Bool) (j : Dev nD) : Memref sig .tc .vmem S1x256x512 .bf16 := (abM b).slice (aR j) (fun _ => rfl)
abbrev cS (b : Bool) (k : Fin 7) : Memref sig .tc .vmem S1x256x512 .bf16 := (cmM b).slice (cR k) (fun _ => rfl)

/-- A unit-stride slice depends on its offset only. -/
theorem slice_congr {sh : Shape} {e : EltTy} (m : Memref sig .tc .vmem sh e) {o o' : Fin sh.rank → ℕ} (sz : Fin sh.rank → ℕ)
    (h : o = o') (ho : ∀ a, o a + sz a ≤ sh.size a) (ho' : ∀ a, o' a + sz a ≤ sh.size a) :
    m.slice (Rect.unit (s := sh) o sz ho) (fun _ => rfl) = m.slice (Rect.unit (s := sh) o' sz ho') (fun _ => rfl) := by
  subst h; rfl

/-- The tokens that a copy sends are a slot. -/
theorem xsM_eq (b : Bool) (d : Dev nD) (k : Fin 7) : xsM b d k = (xS b (sl b d k.val)).squeeze S256x256 squeezes_S1x256x256_S256x256 :=
  congrArg (fun m : Memref sig .tc .vmem S1x256x256 .bf16 => m.squeeze S256x256 squeezes_S1x256x256_S256x256) (slice_congr (xaM b) _ (xsO_eq b d k) _ _)
/-- The gates that a copy sends are a slot. -/
theorem osM_eq (b : Bool) (d : Dev nD) (k : Fin 7) : osM b d k = (oS b (sl b d k.val)).squeeze S256x32 squeezes_S1x256x32_S256x32 :=
  congrArg (fun m : Memref sig .tc .vmem S1x256x32 .bf16 => m.squeeze S256x32 squeezes_S1x256x32_S256x32) (slice_congr (ohM b) _ (osO_eq b d k) _ _)
/-- The sums that a copy sends are a slot. -/
theorem rsM_eq (b : Bool) (d : Dev nD) (k : Fin 7) : rsM b d k = (bS b (jn b d k.val)).squeeze S256x512 squeezes_S1x256x512_S256x512 :=
  congrArg (fun m : Memref sig .tc .vmem S1x256x512 .bf16 => m.squeeze S256x512 squeezes_S1x256x512_S256x512) (slice_congr (abM b) _ (rsO_eq b d k) _ _)

/-! ## Cells -/

/-- The entry barrier (`inl true`), the exit barrier (`inl false`), and the transfers' semaphores. -/
abbrev Cell : Type := Bool ⊕ (Bool × Fin 6 × Fin 7)

def csem : Cell → SemLoc sig
  | .inl true => .reg barS
  | .inl false => .reg finS
  | .inr (b, i, k) => .dma (dsem b i k).sem

abbrev kcell (d : Dev nD) (k : Cell) : GSem nD τ sig := ((d : Thread nD τ), csem k)

/-- The cell a semaphore is. -/
def dec (s : SemLoc sig) : Option Cell := match s with
  | .reg q => if q = barS then some (.inl true) else if q = finS then some (.inl false) else none
  | .dma q => if h : 6 ≤ q.val then some (.inr (q.val < 48, ⟨((q.val - 6) % 42) / 7, by omega⟩, ⟨(q.val - 6) % 7, by omega⟩)) else none

set_option maxRecDepth 20000 in
/-- A cell's counter decodes to the cell. -/
theorem dec_csem (k : Cell) : dec (csem k) = some k := by revert k; decide +kernel

/-- Different cells have different counters. -/
theorem csem_inj : Function.Injective csem := fun a b h => by
  have := congrArg dec h; rw [dec_csem, dec_csem] at this; exact Option.some.inj this

/-! ## Contents -/

/-- What each device's operands hold: its tokens, the router's weights, the chosen experts, its experts' weights, the
    shared expert's. -/
structure Ins (F : FTy → Type) [FloatOps F] where
  x : Dev nD → Vec F S512x256 .f32
  rw : Dev nD → Vec F S256x32 .f32
  ix : Dev nD → Vec F S512x1 .i32
  ew : Dev nD → Vec F S4x256x512 .f32
  sw : Dev nD → Vec F S256x512 .f32

variable (I : Ins F)

/-- Device `j`'s half of the tokens for direction `b`, as gathered; -/
def Xv (b : Bool) (j : Dev nD) : Vec F S1x256x256 .bf16 := match b with | true => k0_pay4 (I.x j) | false => k0_pay5 (I.x j)
/-- its gates; -/
def Ov (b : Bool) (j : Dev nD) : Vec F S1x256x32 .bf16 := match b with
  | true => k0_pay6 (I.x j) (I.rw j) (I.ix j) | false => k0_pay8 (k0_pay7 (I.x j) (I.rw j) (I.ix j))
/-- device `d`'s part of the results of device `j`'s tokens, -/
def Av (b : Bool) (d j : Dev nD) : FVec F S1x256x512 .f32 := hAcc d (k0_pay9 (I.ew d)) (Xv I b j) (Ov I b j)
/-- rounded; -/
def Bv (b : Bool) (d j : Dev nD) : FVec F S1x256x512 .bf16 := hAb d (k0_pay9 (I.ew d)) (Xv I b j) (Ov I b j)
/-- the rounded partial sum device `d` sends on at stage `s`. -/
def Sv (b : Bool) : ℕ → Dev nD → FVec F S1x256x512 .bf16
  | 0, d => Bv I b d (jn b d 0)
  | s + 1, d => pAb (Av I b d (jn b d (s + 1))) (Sv b s (nx (!b) d))

/-- The results of device `d`: its two halves. -/
def outH (b : Bool) (d : Dev nD) : FVec F S256x512 .f32 := match b with
  | true => k0_pay162 (k0_pay1 (I.x d)) (k0_pay161 (I.sw d)) (Av I true d d) (Sv I true 6 (nx false d))
  | false => k0_pay163 (k0_pay1 (I.x d)) (k0_pay161 (I.sw d)) (Av I false d d) (Sv I false 6 (nx true d))

/-! ## The schedule -/

/-- The credit of a transfer of kind `i`. -/
def Nk (i : Fin 6) : ℕ := ![(xsM true 0 0).view.dmaCredit, (xsM true 0 0).view.dmaCredit, (osM true 0 0).view.dmaCredit,
  (osM true 0 0).view.dmaCredit, (rsM true 0 0).view.dmaCredit, (rsM true 0 0).view.dmaCredit] i

/-- Every transfer moves something. -/
theorem Nk_pos (i : Fin 6) : 0 < Nk i := by
  fin_cases i <;> exact View.dmaCredit_pos _ (by decide)

/-- What a copy of tokens counts. -/
theorem xs_amount (b : Bool) (d : Dev nD) (k : Fin 7) (q : DmaSem sig) : (xsM b d k).view.amount (.dma q) = Nk 1 := by cases b <;> rfl
/-- What a copy of gates counts. -/
theorem os_amount (b : Bool) (d : Dev nD) (k : Fin 7) (q : DmaSem sig) : (osM b d k).view.amount (.dma q) = Nk 3 := by cases b <;> rfl
/-- What a copy of sums counts at its source, -/
theorem rs_amount (b : Bool) (d : Dev nD) (k : Fin 7) (q : DmaSem sig) : (rsM b d k).view.amount (.dma q) = Nk 5 := by cases b <;> rfl
/-- and at its target. -/
theorem cm_amount (b : Bool) (k : Fin 7) (q : DmaSem sig) : (cmS b k).view.amount (.dma q) = Nk 5 := by cases b <;> rfl

/-- A slot whole at some contents. -/
abbrev anyOf (d : Dev nD) {sh : Shape} {e : EltTy} (m : Memref sig .tc .vmem sh e) : sProp 𝕄 := iprop(∃ v, ownsTc d m fullShare v)

/-- What device `n` lets its neighbour write in direction `b` at transfer `k`, `d` the neighbour. -/
def lend (b : Bool) (d n : Dev nD) (k : Fin 7) : sProp 𝕄 :=
  iprop(anyOf (F := F) n (xS b (sl b d k.val)) ∗ anyOf (F := F) n (oS b (sl b d k.val)) ∗ anyOf (F := F) n (cS b k))

/-- What cell `k` of device `d` hands over for duty `e`. -/
def pay (d : Dev nD) (k : Cell) (e : Bool) : sProp 𝕄 := match k with
  | .inl true => bigSep Finset.univ fun k : Fin 7 => lend e d (nx e d) k
  | .inl false => iprop(emp)
  | .inr (b, i, k) => match i with
    | 0 => ownsTc d (xS b (sl b d k.val)) fullShare.right (Xv I b (sl b d k.val))
    | 1 => ownsTc d (xS b (jn b d k.val)) fullShare (Xv I b (jn b d k.val))
    | 2 => ownsTc d (oS b (sl b d k.val)) fullShare.right (Ov I b (sl b d k.val))
    | 3 => ownsTc d (oS b (jn b d k.val)) fullShare (Ov I b (jn b d k.val))
    | 4 => ownsTc d (bS b (jn b d k.val)) fullShare (Sv I b k.val d)
    | 5 => ownsTc d (cS b k) fullShare (Sv I b k.val (nx (!b) d))

instance pay_storable (d : Dev nD) (k : Cell) (e : Bool) : BI.Storable (upEmb : UEmb _ 𝕄) (pay I d k e) := by
  rcases k with (_ | _) | ⟨b, i, k⟩
  · unfold pay; infer_instance
  · unfold pay lend; infer_instance
  · fin_cases i <;> (unfold pay; infer_instance)

/-- One round: a barrier has two duties of one unit, a transfer's semaphore one of the transfer's credit. -/
def ringRd : Rounds.Schedule (GSem nD τ sig) Bool 𝕄 where
  duties g r := if r = 0 ∧ g.1.2 = .tc then (match dec g.2 with | some (.inl _) => Finset.univ | some (.inr _) => {false} | none => ∅) else ∅
  unitless _ := False
  amount g _ _ := match dec g.2 with | some (.inr (_, i, _)) => Nk i | _ => 1
  payload g _ e := match dec g.2 with | some k => pay I g.1.1 k e | none => iprop(emp)
  amount_pos g r e _ := by
    show 0 < (match dec g.2 with | some (.inr (_, i, _)) => Nk i | _ => 1)
    split
    · exact Nk_pos _
    · exact Nat.one_pos

instance ringRd_payload_storable (g : GSem nD τ sig) (r : ℕ) (e : Bool) : BI.Storable (upEmb : UEmb _ 𝕄) ((ringRd I).payload g r e) := by
  show BI.Storable upEmb (match dec g.2 with | some k => pay I g.1.1 k e | none => iprop(emp))
  split <;> infer_instance

/-- A barrier has two duties, one from each neighbour. -/
theorem duties_bar (d : Dev nD) (x : Bool) : (ringRd I).duties (kcell d (.inl x)) 0 = Finset.univ := by
  dsimp only [ringRd]; rw [if_pos ⟨rfl, rfl⟩, dec_csem]
/-- A transfer's counter has one duty. -/
theorem duties_dma (d : Dev nD) (p : Bool × Fin 6 × Fin 7) : (ringRd I).duties (kcell d (.inr p)) 0 = {false} := by
  dsimp only [ringRd]; rw [if_pos ⟨rfl, rfl⟩, dec_csem]
/-- There is one round only. -/
theorem duties_later (g : GSem nD τ sig) : ∀ r, 1 ≤ r → (ringRd I).duties g r = ∅ :=
  fun r hr => by dsimp only [ringRd]; rw [if_neg fun h => by omega]
/-- A barrier's signal counts one. -/
theorem amount_bar (d : Dev nD) (x e : Bool) : (ringRd I).amount (kcell d (.inl x)) 0 e = 1 := by
  dsimp only [ringRd]; rw [dec_csem]
/-- A transfer counts what it moves. -/
theorem amount_dma (d : Dev nD) (b : Bool) (i : Fin 6) (k : Fin 7) (e : Bool) : (ringRd I).amount (kcell d (.inr (b, i, k))) 0 e = Nk i := by
  dsimp only [ringRd]; rw [dec_csem]
/-- What a duty carries is what the protocol says. -/
theorem payload_eq (d : Dev nD) (k : Cell) (e : Bool) : (ringRd I).payload (kcell d k) 0 e = pay I d k e := by
  dsimp only [ringRd]; rw [dec_csem]
/-- A barrier waits for two. -/
theorem expect_bar (d : Dev nD) (x : Bool) : (ringRd I).expect (kcell d (.inl x)) 0 = 2 := by
  unfold Schedule.expect Schedule.amountOf
  rw [duties_bar, Finset.sum_congr rfl fun e _ => amount_bar I d x e, Finset.sum_const, Finset.card_univ, Fintype.card_bool, smul_eq_mul]
/-- A transfer's wait is for what it moves. -/
theorem expect_dma (d : Dev nD) (b : Bool) (i : Fin 6) (k : Fin 7) : (ringRd I).expect (kcell d (.inr (b, i, k))) 0 = Nk i := by
  unfold Schedule.expect Schedule.amountOf; rw [duties_dma, Finset.sum_singleton, amount_dma]
/-- A barrier's wait yields what the two neighbours gave. -/
theorem rest_bar (d : Dev nD) (x : Bool) :
    bigSep ((ringRd I).duties (kcell d (.inl x)) 0 \ ∅) (fun e => (ringRd I).payload (kcell d (.inl x)) 0 e) = iprop(pay I d (.inl x) false ∗ pay I d (.inl x) true) := by
  rw [Finset.sdiff_empty, duties_bar, bigSep_univ_eq_bigSepL [false, true] (by decide) (by decide), bigSepL_cons_cons, bigSepL_singleton,
    payload_eq, payload_eq]
  rfl
/-- A transfer's wait yields what it carried. -/
theorem rest_dma (d : Dev nD) (p : Bool × Fin 6 × Fin 7) :
    bigSep ((ringRd I).duties (kcell d (.inr p)) 0 \ ∅) (fun e => (ringRd I).payload (kcell d (.inr p)) 0 e) = pay I d (.inr p) false := by
  rw [Finset.sdiff_empty, duties_dma, bigSep_singleton, payload_eq]

/-! ## What each device owes, and the levels -/

/-- When, in the body's order, the transfer that fills cell `p` starts. -/
def pos (p : Bool × Fin 6 × Fin 7) : ℕ :=
  (if p.2.1 = 5 then 6 + 6 * p.2.2.val else (if p.2.1 = 3 then 1 else 0) + (if p.2.2 = 0 then (if p.1 then 0 else 2) else 6 * p.2.2.val - 2))
    + (if p.1 then 0 else if p.2.1 ≠ 5 ∧ p.2.2 = 0 then 0 else 3)

/-- The cells filled by a neighbour's transfers. -/
def isRecv (p : Bool × Fin 6 × Fin 7) : Prop := p.2.1 = 1 ∨ p.2.1 = 3 ∨ p.2.1 = 5
instance (p : Bool × Fin 6 × Fin 7) : Decidable (isRecv p) := by unfold isRecv; infer_instance

/-- Device `d`'s units for the neighbours' exit barriers; -/
def finO (d : Dev nD) : CellTallies nD τ sig Unit := tallyAt (kcell (nx true d) (.inl false)) () 1 + tallyAt (kcell (nx false d) (.inl false)) () 1
/-- with the credits of the transfers it starts from `n` on; -/
def Ow (d : Dev nD) (n : ℕ) : CellTallies nD τ sig Unit :=
  finO d + ∑ p ∈ Finset.univ.filter (fun p => isRecv p ∧ n ≤ pos p), tallyAt (kcell (nx p.1 d) (.inr p)) () (Nk p.2.1)
/-- with its units for the neighbours' entry barriers. -/
def O₀ (d : Dev nD) : CellTallies nD τ sig Unit :=
  Ow d 0 + tallyAt (kcell (nx true d) (.inl true)) () 1 + tallyAt (kcell (nx false d) (.inl true)) () 1

/-- The transfer at `n` is the one of `p`, and the next is at `n'`. -/
theorem Ow_step (d : Dev nD) (n n' : ℕ) (p : Bool × Fin 6 × Fin 7) (hp : isRecv p) (hn : n ≤ pos p) (hn' : pos p < n')
    (h : ∀ q, isRecv q → n ≤ pos q → q = p ∨ n' ≤ pos q) :
    Ow d n = Ow d n' + tallyAt (kcell (nx p.1 d) (.inr p)) () (Nk p.2.1) := by
  have e : (Finset.univ.filter fun q => isRecv q ∧ n ≤ pos q) = insert p (Finset.univ.filter fun q => isRecv q ∧ n' ≤ pos q) := by
    ext q
    simp only [Finset.mem_filter, Finset.mem_univ, true_and, Finset.mem_insert]
    constructor
    · rintro ⟨h1, h2⟩
      rcases h q h1 h2 with h3 | h3
      · exact .inl h3
      · exact .inr ⟨h1, h3⟩
    · rintro (rfl | ⟨h1, h2⟩)
      · exact ⟨hp, hn⟩
      · exact ⟨h1, by omega⟩
  unfold Ow
  rw [e, Finset.sum_insert (by simp only [Finset.mem_filter, Finset.mem_univ, true_and]; omega), add_assoc, add_comm (tallyAt _ _ _)]

def lev (k : Cell) : ℕ := match k with
  | .inl true => 1
  | .inl false => 1000
  | .inr p => if isRecv p then pos p + 2 else 0

def L (g : GSem nD τ sig) : Finset Unit := if g.1.2 = .tc then {()} else ∅
def lv (g : GSem nD τ sig) (_ : Unit) : ℕ := match dec g.2 with | some k => lev k | none => 0

/-- Levels are kept for the compute cores only, -/
theorem L_of_ne (g : GSem nD τ sig) (h : g.1.2 ≠ .tc) : L g = ∅ := if_neg h
/-- at each of their counters. -/
theorem L_tc (c : Dev nD) (sm : SemLoc sig) : L ((c : Thread nD τ), sm) = {()} := if_pos rfl
/-- A cell's level is its place in the order. -/
theorem lv_kcell (d : Dev nD) (k : Cell) (u : Unit) : lv (kcell d k) u = lev k := by
  show (match dec (csem k) with | some k => lev k | none => 0) = _
  rw [dec_csem]

/-- A debt to one cell is to no other. -/
theorem tally_pos {g h : GSem nD τ sig} {n : ℕ} {u v : Unit} (hp : 0 < (tallyAt h v n : CellTallies nD τ sig Unit) g u) : g = h := by
  rw [tallyAt_apply] at hp
  by_contra hn
  rw [if_neg fun h' => hn h'.1] at hp
  exact Nat.lt_irrefl 0 hp

/-- The last debts are to the second barrier. -/
theorem finO_pos {d : Dev nD} {g : GSem nD τ sig} {u : Unit} (h : 0 < finO d g u) : ∃ d', g = kcell d' (.inl false) := by
  unfold finO at h
  rw [Pi.add_apply, Finsupp.add_apply] at h
  rcases Nat.add_pos_iff_pos_or_pos.mp h with h | h <;> exact ⟨_, tally_pos h⟩

/-- After `n` steps what is owed lies later in the order, or to the second barrier. -/
theorem Ow_pos {d : Dev nD} {n : ℕ} {g : GSem nD τ sig} {u : Unit} (h : 0 < Ow d n g u) :
    ∃ d' k, g = kcell d' k ∧ n + 2 ≤ lev k ∨ g = kcell d' (.inl false) := by
  unfold Ow at h
  rw [Pi.add_apply, Finsupp.add_apply] at h
  rcases Nat.add_pos_iff_pos_or_pos.mp h with h | h
  · obtain ⟨d', h⟩ := finO_pos h
    exact ⟨d', .inl false, .inr h⟩
  · rw [Finset.sum_apply, Finsupp.finset_sum_apply] at h
    obtain ⟨p, hp, hpos⟩ := Finset.exists_ne_zero_of_sum_ne_zero (Nat.pos_iff_ne_zero.mp h)
    have hm := (Finset.mem_filter.mp hp).2
    refine ⟨_, .inr p, .inl ⟨tally_pos (Nat.pos_of_ne_zero hpos), ?_⟩⟩
    show n + 2 ≤ (if isRecv p then pos p + 2 else 0)
    rw [if_pos hm.1]; omega

/-- A wait is allowed below the level of everything owed. -/
theorem mayWait_of (c : Dev nD) (sm : SemLoc sig) (n : ℕ) (hn : lv ((c : Thread nD τ), sm) () ≤ n) (O : CellTallies nD τ sig Unit)
    (hO : ∀ g u, 0 < O g u → ∃ d' k, g = kcell d' k ∧ n < lev k) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d', k, rfl, -⟩ := hO g u hg; rw [L_tc]; exact Finset.mem_singleton_self _)
    (fun p hp => by rw [Finset.mem_singleton.mp hp]; exact hn)
    (fun g u hg => by obtain ⟨d', k, rfl, h⟩ := hO g u hg; rw [lv_kcell]; exact h)

/-- In particular at a cell below all transfers still to start. -/
theorem mayWait_Ow (c : Dev nD) (k : Cell) (n : ℕ) (hn : lev k ≤ n + 1) (hn' : n < 900) :
    (levAts L lv : sProp 𝕄) ⊢ MayWait (c : Thread nD τ) (csem k) () (Ow c n) :=
  mayWait_of c (csem k) (n + 1) (by rw [lv_kcell c k]; exact hn) _ fun g u hg => by
    obtain ⟨d', k', h | h⟩ := Ow_pos hg
    · exact ⟨d', k', h.1, by omega⟩
    · exact ⟨d', _, h, by show n + 1 < 1000; omega⟩

end Cert.MoE
-- ==== Proof.Ops.lean ====
module

public import proofs.«01_k».proof.Proof.Protocol

/-! # The rules of the body's effects, over slots -/

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The rest `p` of device `c`'s body ends in `Q`. -/
abbrev wpc (c : Dev nD) (p : Pg F) (Q : PUnit → sProp 𝕄) : sProp 𝕄 :=
  wp frame (wpE (defs₀ (F := F)) 𝒱₀ (c : Thread nD τ) none) Set.univ p Q

/-! ## Loads and stores of a slot -/

section Slots

variable {sh : Shape} {e : EltTy} {c : Dev nD} {m : Memref sig .tc .vmem sh e} {r : Rect sh}

/-- A load of a slot held gives what it holds. -/
theorem ld {Q : PUnit → sProp 𝕄} (A : Memref sig .tc .vmem r.shape e) {hr : ∀ a, r.stride a = 1} (hA : m.slice r hr = A) {hl : m.view.LoadsAt r.toLoadRect}
    {k : (r.toLoadRect.shape.Idx → Elt F e) → Pg F} {q : PosShare TreeShare} {v : r.shape.Idx → Elt F e} :
    (ownsTc c A q v : sProp 𝕄) ⊢ iprop((ownsTc c A q v -∗ wpc c (k v) Q) -∗ wpc c (.op (.load m r.toLoadRect hl) k) Q) := by
  subst hA
  unfold ownsTc owns
  iintro ⟨%f, %hf, H⟩ Hk
  subst hf
  iapply (wp_load_rect 𝒱₀ (c : Thread nD τ) none Set.univ (m := m) (r := r) (S := (m.slice r hr).view.set) (f := f) subset_rfl) $$ H
  iintro H
  iapply Hk
  iexists f
  isplitr; · ipureintro; rfl
  iexact H

/-- A store into a slot held leaves what is stored. -/
theorem st {Q : PUnit → sProp 𝕄} (A : Memref sig .tc .vmem r.shape e) {hr : ∀ a, r.stride a = 1} (hA : m.slice r hr = A) {w : r.shape.Idx → Elt F e}
    {hx : (m.access r).Stores Finset.univ} {hm : (Finset.univ : Finset r.shape.Idx) = Finset.univ ∨ ∀ a, r.stride a = 1} {k : PUnit → Pg F} :
    (anyOf c A : sProp 𝕄) ⊢ iprop((ownsTc c A fullShare w -∗ wpc c (k ⟨⟩) Q) -∗ wpc c (.op (.store m r w Finset.univ hx hm) k) Q) := by
  subst hA
  unfold anyOf ownsTc owns
  iintro ⟨%v, %f, %hf, H⟩ Hk
  iapply (wp_store 𝒱₀ (c : Thread nD τ) none Set.univ (m := m) (r := r) (Mk := Finset.univ) (S := (m.slice r hr).view.set) (f := f) subset_rfl) $$ H
  iintro H
  iapply Hk
  iexists _
  isplitr
  rotate_left
  · iexact H
  · ipureintro; exact View.read_write_univ f w

/-- A load of a slot about to be overwritten. -/
theorem ldAny {Q : PUnit → sProp 𝕄} (A : Memref sig .tc .vmem r.shape e) {hr : ∀ a, r.stride a = 1} (hA : m.slice r hr = A) {hl : m.view.LoadsAt r.toLoadRect}
    {k : Pg F} :
    (anyOf c A : sProp 𝕄) ⊢ iprop((anyOf c A -∗ wpc c k Q) -∗ wpc c (.op (.load m r.toLoadRect hl) fun _ => k) Q) := by
  iintro ⟨%v, H⟩ Hk
  iapply (ld A hA) $$ H
  iintro H
  iapply Hk
  iexists v; iexact H

section Unit

variable {o o' : Fin sh.rank → ℕ} {sz : Fin sh.rank → ℕ} {ho : ∀ a, o a + sz a ≤ sh.size a} {ho' : ∀ a, o' a + sz a ≤ sh.size a}

/-! The same at an offset computed, the slot named by the offset in closed form. -/

/-- A load of a rectangle of an owned buffer, the offset known by an equation, yields its contents there. -/
theorem ldU {Q : PUnit → sProp 𝕄} (m : Memref sig .tc .vmem sh e) (h : o = o') {hl : m.view.LoadsAt (Rect.unit (s := sh) o sz ho).toLoadRect}
    {k : ((Rect.unit (s := sh) o sz ho).toLoadRect.shape.Idx → Elt F e) → Pg F} {q : PosShare TreeShare} {v : (Rect.unit (s := sh) o' sz ho').shape.Idx → Elt F e} :
    (ownsTc c (m.slice (Rect.unit (s := sh) o' sz ho') (fun _ => rfl)) q v : sProp 𝕄)
      ⊢ iprop((ownsTc c (m.slice (Rect.unit (s := sh) o' sz ho') (fun _ => rfl)) q v -∗ wpc c (k v) Q)
          -∗ wpc c (.op (.load m (Rect.unit (s := sh) o sz ho).toLoadRect hl) k) Q) := by
  subst h; exact ld _ rfl
/-- A load whose value is not used, of a rectangle at some contents, leaves it so. -/
theorem ldAnyU {Q : PUnit → sProp 𝕄} (m : Memref sig .tc .vmem sh e) (h : o = o') {hl : m.view.LoadsAt (Rect.unit (s := sh) o sz ho).toLoadRect}
    {k : Pg F} :
    (anyOf c (m.slice (Rect.unit (s := sh) o' sz ho') (fun _ => rfl)) : sProp 𝕄)
      ⊢ iprop((anyOf c (m.slice (Rect.unit (s := sh) o' sz ho') (fun _ => rfl)) -∗ wpc c k Q)
          -∗ wpc c (.op (.load m (Rect.unit (s := sh) o sz ho).toLoadRect hl) fun _ => k) Q) := by
  subst h; exact ldAny _ rfl
/-- A store to a rectangle of a buffer, the offset known by an equation, leaves the stored value there. -/
theorem stU {Q : PUnit → sProp 𝕄} (m : Memref sig .tc .vmem sh e) (h : o = o') {w : (Rect.unit (s := sh) o sz ho).shape.Idx → Elt F e}
    {hx : (m.access (Rect.unit (s := sh) o sz ho)).Stores Finset.univ}
    {hm : (Finset.univ : Finset (Rect.unit (s := sh) o sz ho).shape.Idx) = Finset.univ ∨ ∀ a, (Rect.unit (s := sh) o sz ho).stride a = 1} {k : PUnit → Pg F} :
    (anyOf c (m.slice (Rect.unit (s := sh) o' sz ho') (fun _ => rfl)) : sProp 𝕄)
      ⊢ iprop((ownsTc c (m.slice (Rect.unit (s := sh) o' sz ho') (fun _ => rfl)) fullShare w -∗ wpc c (k ⟨⟩) Q)
          -∗ wpc c (.op (.store m (Rect.unit (s := sh) o sz ho) w Finset.univ hx hm) k) Q) := by
  subst h; exact st _ rfl

end Unit

/-- A buffer at known contents is one at some contents. -/
theorem any_of (A : Memref sig .tc .vmem sh e) (v : sh.Idx → Elt F e) : (ownsTc c A fullShare v : sProp 𝕄) ⊢ anyOf c A := by
  iintro H; iexists v; iexact H

/-- A buffer's ownership splits into two halves, -/
theorem share_split (A : Memref sig .tc .vmem sh e) (v : sh.Idx → Elt F e) :
    (ownsTc c A fullShare v : sProp 𝕄) ⊢ iprop(ownsTc c A fullShare.left v ∗ ownsTc c A fullShare.right v) :=
  (owns_share (c : Thread nD τ) A (PosShare.mem_left_op_right fullShare) v).1
/-- which join again. -/
theorem share_join (A : Memref sig .tc .vmem sh e) (v : sh.Idx → Elt F e) :
    (iprop(ownsTc c A fullShare.left v ∗ ownsTc c A fullShare.right v) : sProp 𝕄) ⊢ ownsTc c A fullShare v :=
  (owns_share (c : Thread nD τ) A (PosShare.mem_left_op_right fullShare) v).2

/-- What a slot reads, from what its squeezed form reads. -/
theorem read_of_squeeze {s' : Shape} (A B : Memref sig .tc .vmem sh e) (hs : sh.Squeezes s') (f : A.view.ty.Contents (Elt F)) (g : B.view.ty.Contents (Elt F))
    (h : (A.squeeze s' hs).view.read (Elt F) f = (B.squeeze s' hs).view.read (Elt F) g) : A.view.read (Elt F) f = B.view.read (Elt F) g := by
  funext x
  have := congrFun h ((Shape.reshapeEquiv hs.numel_eq).symm x)
  rw [View.read_apply, View.read_apply] at this ⊢
  simpa [Memref.view_squeeze] using this

end Slots

/-! ## What is known to all -/

section Ring

variable (I : Ins F) (K : Dev nD × Cell → ℕ)

/-- Every cell's invariant and that its round is open, and the levels. -/
def Ctx : sProp 𝕄 :=
  iprop((bigSep Finset.univ fun p : Dev nD × Cell => cellInv ER (ringRd I) (K p) (kcell p.1 p.2))
    ∗ (bigSep Finset.univ fun p : Dev nD × Cell => reached ER (kcell p.1 p.2) 0) ∗ levAts L lv)

instance Ctx_persistent : BI.Persistent (Ctx I K) := by unfold Ctx; infer_instance

/-- What all know includes each cell's invariant, -/
theorem Ctx_inv (d : Dev nD) (k : Cell) : Ctx I K ⊢ cellInv ER (ringRd I) (K (d, k)) (kcell d k) := by
  have h : (bigSep Finset.univ fun p : Dev nD × Cell => (cellInv ER (ringRd I) (K p) (kcell p.1 p.2) : sProp 𝕄)) ⊢ cellInv ER (ringRd I) (K (d, k)) (kcell d k) :=
    bigSep_elim (Finset.mem_univ (d, k))
  unfold Ctx
  iintro ⟨H, -⟩
  iapply h; iexact H
/-- that each cell has reached its first round, -/
theorem Ctx_reached (d : Dev nD) (k : Cell) : Ctx I K ⊢ reached ER (kcell d k) 0 := by
  have h : (bigSep Finset.univ fun p : Dev nD × Cell => (reached ER (kcell p.1 p.2) 0 : sProp 𝕄)) ⊢ reached ER (kcell d k) 0 :=
    bigSep_elim (Finset.mem_univ (d, k))
  unfold Ctx
  iintro ⟨-, H, -⟩
  iapply h; iexact H
/-- and the levels. -/
theorem Ctx_lev : Ctx I K ⊢ levAts L lv := by
  unfold Ctx
  iintro ⟨-, -, H⟩; iexact H

/-- Device `c` owes `O`. -/
def Owe (c : Dev nD) (O : CellTallies nD τ sig Unit) : sProp 𝕄 := iprop(∃ W, owes (c : Thread nD τ) O W)

/-- The token of a cell's duty; a position before its round; the credit a wait for a transfer spends. -/
abbrev tok (d : Dev nD) (k : Cell) (e : Bool) : sProp 𝕄 := dutyTok ER (kcell d k) 0 e
abbrev at0 (d : Dev nD) (k : Cell) : sProp 𝕄 := atPos ER (kcell d k) 0 ∅ 0
abbrev crd (d : Dev nD) (b : Bool) (i : Fin 6) (k : Fin 7) : sProp 𝕄 := cred (tallyAt (kcell d (.inr (b, i, k))) () (Nk i))
abbrev z0 (d : Dev nD) (k : Cell) : sProp 𝕄 := semVal (kcell d k) 0

/-- A wait for a transfer gives what its cell hands over, and the cell's counter back at zero. -/
theorem wait_dma (c : Dev nD) (b : Bool) (i : Fin 6) (k : Fin 7) (n : ℕ) (hn : lev (.inr (b, i, k)) ≤ n + 1) (hn' : n < 900)
    {s s' : Shape} {e e' : EltTy} {src : Memref sig .tc .vmem s e} {dst : Memref sig .tc .vmem s' e'} {h1 : src.view.WordExact} {h2 : dst.view.WordExact}
    (hN : dst.view.dmaCredit = Nk i) {p : PUnit → Pg F} {Q : PUnit → sProp 𝕄} :
    iprop(Ctx I K ∗ crd c b i k ∗ Owe c (Ow c n) ∗ at0 c (.inr (b, i, k)))
      ⊢ iprop(((Owe c (Ow c n) ∗ z0 c (.inr (b, i, k)) ∗ pay I c (.inr (b, i, k)) false) -∗ wpc c (p ⟨⟩) Q)
          -∗ wpc c (.op (.waitDma2 (dsem b i k).sem src dst h1 h2) p) Q) := by
  unfold Owe
  iintro ⟨#HC, Hc, ⟨%W, HO⟩, Ha⟩ Hk
  iapply (Rounds.wp_wait_rest_token 𝒱₀ ER (ringRd I) (c : Thread nD τ) none (κ := K (c, .inr (b, i, k))) (sm := csem (.inr (b, i, k))) (k' := Nk i)
      (fun X => by rw [← hN]; exact wpE_waitDma2_eq 𝒱₀ (c : Thread nD τ) none Set.univ X) (Set.mem_univ _) () (O := Ow c n) (W := W) (R := 0) (m := 0) (T := ∅)
      (by rw [Nat.zero_add]; exact (expect_dma I c b i k).symm)) $$ [Hc HO Ha]
  · isplitr; · iapply (Ctx_inv I K c (.inr (b, i, k))); iexact HC
    isplitl [Hc]; · iexact Hc
    isplitl [HO]; · iexact HO
    isplitr
    · iapply (mayWait_Ow c (.inr (b, i, k)) n hn hn')
      iapply (Ctx_lev I K); iexact HC
    iexact Ha
  iintro ⟨HO, Ha, -, Hp⟩
  ihave Hp := (Entails.of_eq (rest_dma I c (b, i, k))) $$ Hp
  imod (Rounds.cell_close ER (ringRd I) (Set.mem_univ (K (c, .inr (b, i, k)))) (fun h => h) (R := 0 + 1) (duties_later I (kcell c (.inr (b, i, k))))) $$ [Ha] with Hz
  · isplitr; · iapply (Ctx_inv I K c (.inr (b, i, k))); iexact HC
    iexact Ha
  iapply Hk
  isplitl [HO]; · iexists _; iexact HO
  isplitl [Hz]; · iexact Hz
  iexact Hp

/-- A transfer's counter has the one duty. -/
theorem mem_dma (d : Dev nD) (p : Bool × Fin 6 × Fin 7) : false ∈ (ringRd I).duties (kcell d (.inr p)) 0 := by
  rw [duties_dma]; exact Finset.mem_singleton_self _

/-- A transfer of a slot, to the neighbour in direction `b`: the source is handed to the departure's cell, the
    destination written to the arrival's. -/
theorem send_slot (c : Dev nD) (b : Bool) (i0 i1 : Fin 6) (k : Fin 7) {sh s' : Shape} {e : EltTy} (hs : sh.Squeezes s')
    (A B : Memref sig .tc .vmem sh e) (n : Dev nD) (hn : n = nx b c) {src : Memref sig .tc .vmem s' e} {dst : Memref sig .tc .vmem s' e}
    (hsrc' : src = A.squeeze s' hs) (hdst' : dst = B.squeeze s' hs)
    {hsc : dst.view.ref.isScScratch = false} {hsrc : src.view.WordExact} {hdst : dst.view.WordExact}
    {hsem : DmaTarget.Typed .vmem (.dma (dsem b i1 k).sem) (.remote (Dev.tc n : Thread nD τ) dst (.dma (dsem b i0 k).sem) hsc)}
    (hN : ∀ q : DmaSem sig, dst.view.amount (.dma q) = Nk i1) (hi : Nk i0 = Nk i1) (O O' : CellTallies nD τ sig Unit)
    (hO : O = O' + tallyAt (kcell (nx b c) (.inr (b, i1, k))) () (Nk i1))
    {q : PosShare TreeShare} {v : sh.Idx → Elt F e} (h0 : (ownsTc c A q v : sProp 𝕄) ⊢ pay I c (.inr (b, i0, k)) false)
    (h1 : (ownsTc (nx b c) B fullShare v : sProp 𝕄) ⊢ pay I (nx b c) (.inr (b, i1, k)) false)
    {p : PUnit → Pg F} {Q : PUnit → sProp 𝕄} :
    iprop(Ctx I K ∗ ownsTc c A q v ∗ anyOf (nx b c) B ∗ Owe c O ∗ tok c (.inr (b, i0, k)) false ∗ tok (nx b c) (.inr (b, i1, k)) false)
      ⊢ iprop(((crd c b i0 k ∗ Owe c O') -∗ wpc c (p ⟨⟩) Q)
          -∗ wpc c (.op (.enqueueDma src (.remote (Dev.tc n : Thread nD τ) dst (.dma (dsem b i0 k).sem) hsc) (.dma (dsem b i1 k).sem) hsrc hdst hsem) p) Q) := by
  subst hn hsrc' hdst'
  have eA : (A.squeeze s' hs).view.set = A.view.set := View.set_reshape (v := A.view) hs.numel_eq
  have eB : (B.squeeze s' hs).view.set = B.view.set := View.set_reshape (v := B.view) hs.numel_eq
  unfold Owe
  iintro ⟨#HC, HA, HB, ⟨%W, HO⟩, Ht0, Ht1⟩ Hk
  icases HB with ⟨%w, HB⟩
  unfold ownsTc owns at *
  icases HA with ⟨%fs, %hfs, HA⟩
  icases HB with ⟨%fd, %hfd, HB⟩
  subst hfs
  have e0 : ((A.squeeze s' hs).view.loc (c : Thread nD τ) ↦[(A.squeeze s' hs).view.set]{q} fs : sProp 𝕄) = (A.view.loc (c : Thread nD τ) ↦[A.view.set]{q} fs) := by
    rw [eA]
  have e1 (g : B.view.ty.Contents (Elt F)) : ((B.squeeze s' hs).view.loc (nx b c : Thread nD τ) ↦[(B.squeeze s' hs).view.set]{fullShare} g : sProp 𝕄) = (B.view.loc (nx b c : Thread nD τ) ↦[B.view.set]{fullShare} g) := by
    rw [eB]
  have e2 : (crd c b i0 k : sProp 𝕄) = cred (tallyAt (kcell c (.inr (b, i0, k))) () (Nk i1)) := by rw [← hi]
  rw [e2]
  iapply (Rounds.wp_send_pointsTo 𝒱₀ ER (ringRd I) (c : Thread nD τ) none (c' := (nx b c : Thread nD τ)) (src := A.squeeze s' hs) (dst := B.squeeze s' hs)
      (κ₁ := K (c, .inr (b, i0, k))) (κ₂ := K (nx b c, .inr (b, i1, k)))
      (r₁ := 0) (r₂ := 0) (d₁ := false) (d₂ := false) (q := q) (fs := fs) (fd := fd)
      (mem_dma I c (b, i0, k))
      (mem_dma I (nx b c) (b, i1, k))
      () () (Nk i1) (hN _) ((amount_dma I c b i0 k false).trans hi) (amount_dma I (nx b c) b i1 k false) O' hO (W := W)
      (by
        rw [e0]
        refine .trans ?_ ((h0).trans (Entails.of_eq (payload_eq I c (.inr (b, i0, k)) false).symm))
        iintro H; iexists fs; isplitr; · ipureintro; rfl
        iexact H)
      (by
        rw [e1]
        refine .trans ?_ ((h1).trans (Entails.of_eq (payload_eq I (nx b c) (.inr (b, i1, k)) false).symm))
        iintro H; iexists _
        isplitr
        rotate_left
        · iexact H
        · ipureintro; exact read_of_squeeze B A hs _ _ (View.read_write_univ _ _))) $$ [HA HB HO Ht0 Ht1]
  · isplitr; · iapply (Ctx_inv I K c (.inr (b, i0, k))); iexact HC
    isplitr; · iapply (Ctx_inv I K (nx b c) (.inr (b, i1, k))); iexact HC
    isplitl [HA]; · rw [e0]; iexact HA
    isplitl [HB]; · rw [e1]; iexact HB
    isplitl [HO]; · iexact HO
    isplitl [Ht0]; · iexact Ht0
    isplitr; · iapply (Ctx_reached I K c (.inr (b, i0, k))); iexact HC
    isplitl [Ht1]; · iexact Ht1
    iapply (Ctx_reached I K (nx b c) (.inr (b, i1, k))); iexact HC
  iintro ⟨Hc, HO⟩
  iapply Hk
  isplitl [Hc]; · iexact Hc
  iexists W; iexact HO

/-- A barrier `x`: a unit to each neighbour, with what the cells hand over, then both units of one's own. -/
theorem meet_wp (c : Dev nD) (x : Bool) (s : Sem sig) (hs : csem (.inl x) = .reg s) (n1 n2 : Dev nD) (h1 : n1 = nx false c) (h2 : n2 = nx true c)
    (O : CellTallies nD τ sig Unit) (hmw : (levAts L lv : sProp 𝕄) ⊢ MayWait (c : Thread nD τ) (csem (.inl x)) () O)
    {p : Pg F} {Q : PUnit → sProp 𝕄} :
    iprop(Ctx I K ∗ Owe c (O + tallyAt (kcell (nx true c) (.inl x)) () 1 + tallyAt (kcell (nx false c) (.inl x)) () 1)
        ∗ tok (nx false c) (.inl x) true ∗ pay I (nx false c) (.inl x) true ∗ tok (nx true c) (.inl x) false ∗ pay I (nx true c) (.inl x) false
        ∗ cred (tallyAt (kcell c (.inl x)) () 2) ∗ at0 c (.inl x))
      ⊢ iprop(((Owe c O ∗ z0 c (.inl x) ∗ pay I c (.inl x) false ∗ pay I c (.inl x) true) -∗ wpc c p Q) -∗ wpc c (meet s n1 n2 p) Q) := by
  subst h1 h2
  unfold Owe meet
  iintro ⟨#HC, ⟨%W, HO⟩, Ht1, Hp1, Ht2, Hp2, Hc, Ha⟩ Hk
  have e (d : Dev nD) : (((d : Thread nD τ), SemLoc.reg s) : GSem nD τ sig) = kcell d (.inl x) := by rw [← hs]
  iapply (Rounds.wp_signal 𝒱₀ ER (ringRd I) (c : Thread nD τ) none (dst := (nx false c : Thread nD τ)) (κ := K (nx false c, .inl x)) (r := 0)
      (d := true) (by rw [e, duties_bar]; exact Finset.mem_univ _) (by rw [e]; exact amount_bar I (nx false c) x true) ()
      (O + tallyAt (kcell (nx true c) (.inl x)) () 1) (by rw [e])) $$ [HO Ht1 Hp1]
  · rw [e, payload_eq]
    isplitr; · iapply (Ctx_inv I K (nx false c) (.inl x)); iexact HC
    isplitl [HO]; · iexact HO
    isplitl [Ht1]; · iexact Ht1
    isplitl [Hp1]; · iexact Hp1
    iapply (Ctx_reached I K (nx false c) (.inl x)); iexact HC
  iintro HO
  iapply (Rounds.wp_signal 𝒱₀ ER (ringRd I) (c : Thread nD τ) none (dst := (nx true c : Thread nD τ)) (κ := K (nx true c, .inl x)) (r := 0)
      (d := false) (by rw [e, duties_bar]; exact Finset.mem_univ _) (by rw [e]; exact amount_bar I (nx true c) x false) () O (by rw [e])) $$ [HO Ht2 Hp2]
  · rw [e, payload_eq]
    isplitr; · iapply (Ctx_inv I K (nx true c) (.inl x)); iexact HC
    isplitl [HO]; · iexact HO
    isplitl [Ht2]; · iexact Ht2
    isplitl [Hp2]; · iexact Hp2
    iapply (Ctx_reached I K (nx true c) (.inl x)); iexact HC
  iintro HO
  iapply (Rounds.wp_wait_rest_token 𝒱₀ ER (ringRd I) (c : Thread nD τ) none (κ := K (c, .inl x)) (sm := csem (.inl x)) (k' := 2)
      (fun X => by rw [hs]; exact wpE_semWait_eq 𝒱₀ (c : Thread nD τ) none Set.univ X) (Set.mem_univ _) () (O := O) (W := W) (R := 0) (m := 0) (T := ∅)
      (by rw [Nat.zero_add]; exact (expect_bar I c x).symm)) $$ [Hc HO Ha]
  · isplitr; · iapply (Ctx_inv I K c (.inl x)); iexact HC
    isplitl [Hc]; · iexact Hc
    isplitl [HO]; · iexact HO
    isplitr
    · iapply hmw
      iapply (Ctx_lev I K); iexact HC
    iexact Ha
  iintro ⟨HO, Ha, -, Hp⟩
  ihave Hp := (Entails.of_eq (rest_bar I c x)) $$ Hp
  icases Hp with ⟨Hp0, Hp1⟩
  imod (Rounds.cell_close ER (ringRd I) (Set.mem_univ (K (c, .inl x))) (fun h => h) (R := 0 + 1) (duties_later I (kcell c (.inl x)))) $$ [Ha] with Hz
  · isplitr; · iapply (Ctx_inv I K c (.inl x)); iexact HC
    iexact Ha
  iapply Hk
  isplitl [HO]; · iexists _; iexact HO
  isplitl [Hz]; · iexact Hz
  isplitl [Hp0] <;> iassumption

end Ring

end Cert.MoE
-- ==== Proof.Steps.lean ====
module

public import proofs.«01_k».proof.Proof.Ops

/-! # The rules of the stages -/

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What the body is to end in. -/
abbrev Post (F : FTy → Type) [FloatOps F] := PUnit.{1} → sProp (MT nD τ sig Unit (Elt F) ℕ UU ℕ)

/-! ## What is still owed at each point -/

set_option maxRecDepth 20000 in
/-- Different arrivals have different places in the order. -/
theorem pos_inj (p q : Bool × Fin 6 × Fin 7) : isRecv p ∧ isRecv q ∧ pos p = pos q → q = p := by revert p q; decide +kernel
/-- Starting the transfer that fills `p`. -/
theorem ow_at (d : Dev nD) (p : Bool × Fin 6 × Fin 7) (hp : isRecv p) (n n' : ℕ) (hn : pos p = n) (hn' : n + 1 = n') :
    Ow d n = Ow d n' + tallyAt (kcell (nx p.1 d) (.inr p)) () (Nk p.2.1) := by
  subst hn hn'
  refine Ow_step d _ _ p hp le_rfl (Nat.lt_succ_self _) fun q hq h => ?_
  rcases Nat.eq_or_lt_of_le h with h | h
  · exact .inl (pos_inj p q ⟨hp, hq, h⟩)
  · exact .inr h
/-- The gates are sent right after the tokens, -/
theorem pos_xo (b : Bool) (s : Fin 7) : pos (b, 1, s) + 1 = pos (b, 3, s) := by revert b s; decide +kernel
/-- and the sums right after the next step's gates. -/
theorem pos_or (b : Bool) (t s : Fin 7) (h : t.val = s.val + 1) : pos (b, 3, t) + 1 = pos (b, 5, s) := by revert b t s; decide +kernel
/-- Sending the tokens pays their debt. -/
theorem ow_x (d : Dev nD) (b : Bool) (t : Fin 7) :
    Ow d (pos (b, 1, t)) = Ow d (pos (b, 3, t)) + tallyAt (kcell (nx b d) (.inr (b, 1, t))) () (Nk 1) :=
  ow_at d (b, 1, t) (.inl rfl) _ _ rfl (pos_xo b t)
/-- Sending the gates pays theirs, the sums next. -/
theorem ow_o (d : Dev nD) (b : Bool) (t s : Fin 7) (h : t.val = s.val + 1) :
    Ow d (pos (b, 3, t)) = Ow d (pos (b, 5, s)) + tallyAt (kcell (nx b d) (.inr (b, 3, t))) () (Nk 3) :=
  ow_at d (b, 3, t) (.inr (.inl rfl)) _ _ rfl (pos_or b t s h)
/-- Sending the first gates pays theirs. -/
theorem ow_o0 (d : Dev nD) (b : Bool) :
    Ow d (pos (b, 3, 0)) = Ow d (pos (b, 3, 0) + 1) + tallyAt (kcell (nx b d) (.inr (b, 3, 0))) () (Nk 3) :=
  ow_at d (b, 3, 0) (.inr (.inl rfl)) _ _ rfl rfl
/-- Sending the sums pays theirs. -/
theorem ow_r (d : Dev nD) (b : Bool) (s : Fin 7) :
    Ow d (pos (b, 5, s)) = Ow d (pos (b, 5, s) + 1) + tallyAt (kcell (nx b d) (.inr (b, 5, s))) () (Nk 5) :=
  ow_at d (b, 5, s) (.inr (.inr rfl)) _ _ rfl rfl
/-- Between the two last stages' sends nothing starts. -/
theorem Ow_skip (d : Dev nD) (n n' : ℕ) (h : ∀ q, isRecv q → (n ≤ pos q ↔ n' ≤ pos q)) : Ow d n = Ow d n' := by
  unfold Ow
  rw [Finset.filter_congr fun q _ => and_congr_right (h q)]
set_option maxRecDepth 20000 in
/-- At the last step there are no tokens or gates left to send. -/
theorem ow_end (d : Dev nD) (b : Bool) : Ow d (pos (b, 5, 6) - 2) = Ow d (pos (b, 5, 6)) :=
  Ow_skip d _ _ (by revert b; decide +kernel)
set_option maxRecDepth 20000 in
/-- After all transfers only the second barrier is owed. -/
theorem Ow_last (d : Dev nD) : Ow d 46 = finO d := by
  unfold Ow
  rw [Finset.filter_eq_empty_iff.mpr (by decide +kernel), Finset.sum_empty, add_zero]

section Ring

variable (I : Ins F) (K : Dev nD × Cell → ℕ) (c : Dev nD)

/-! ## The parts of the state -/

/-- For the arrival of transfer `s`. -/
def RecvB (b : Bool) (s : Fin 7) : sProp 𝕄 := iprop(at0 c (.inr (b, 1, s)) ∗ at0 c (.inr (b, 3, s)) ∗ crd c b 1 s ∗ crd c b 3 s)
/-- For the start of transfer `t`. -/
def SendB (b : Bool) (t : Fin 7) : sProp 𝕄 :=
  iprop(tok c (.inr (b, 0, t)) false ∗ tok (nx b c) (.inr (b, 1, t)) false ∗ tok c (.inr (b, 2, t)) false ∗ tok (nx b c) (.inr (b, 3, t)) false
    ∗ anyOf (F := F) (nx b c) (xS b (sl b c t.val)) ∗ anyOf (F := F) (nx b c) (oS b (sl b c t.val)))
/-- After it. -/
def Out (b : Bool) (t : Fin 7) : sProp 𝕄 :=
  iprop(ownsTc c (xS b (sl b c t.val)) fullShare.left (Xv I b (sl b c t.val)) ∗ ownsTc c (oS b (sl b c t.val)) fullShare.left (Ov I b (sl b c t.val))
    ∗ crd c b 0 t ∗ crd c b 2 t)
/-- The slot worked on at stage `s`. -/
def SlotB (b : Bool) (s : Fin 7) : sProp 𝕄 := iprop(anyOf (F := F) c (aS b (jn b c s.val)) ∗ anyOf (F := F) c (bS b (jn b c s.val)))
/-- For the arrival of stage `s`'s partial result, -/
def RsR (b : Bool) (s : Fin 7) : sProp 𝕄 := iprop(at0 c (.inr (b, 5, s)) ∗ crd c b 5 s)
/-- for its departure. -/
def RsS (b : Bool) (s : Fin 7) : sProp 𝕄 :=
  iprop(tok c (.inr (b, 4, s)) false ∗ tok (nx b c) (.inr (b, 5, s)) false ∗ anyOf (F := F) (nx b c) (cS b s))
/-- After stage `s`. -/
def RsOut (b : Bool) (s : Fin 7) : sProp 𝕄 :=
  iprop(anyOf (F := F) c (aS b (jn b c s.val)) ∗ crd c b 4 s ∗ z0 c (.inr (b, 1, s)) ∗ z0 c (.inr (b, 3, s)))
/-- After the arrival of stage `s`'s partial result. -/
def RsGot (b : Bool) (s : Fin 7) : sProp 𝕄 := iprop(ownsTc c (cS b s) fullShare (Sv I b s.val (nx (!b) c)) ∗ z0 c (.inr (b, 5, s)))
/-- For the departures numbered `k`. -/
def SentB (b : Bool) (k : Fin 7) : sProp 𝕄 := iprop(at0 c (.inr (b, 0, k)) ∗ at0 c (.inr (b, 2, k)) ∗ at0 c (.inr (b, 4, k)))
/-- After them. -/
def Sent (b : Bool) (k : Fin 7) : sProp 𝕄 :=
  iprop((anyOf (F := F) c (xS b (sl b c k.val)) ∗ anyOf (F := F) c (oS b (sl b c k.val)) ∗ anyOf (F := F) c (bS b (jn b c k.val)))
    ∗ z0 c (.inr (b, 0, k)) ∗ z0 c (.inr (b, 2, k)) ∗ z0 c (.inr (b, 4, k)))

variable {Q : Post F} {k : Pg F}

/-! ## Pieces -/

/-- Storing a slot's part. -/
theorem stAcc_wp (b : Bool) (j : Dev nD) (o : Fin 3 → ℕ) (ho : ∀ a, o a + S1x256x512.size a ≤ S8x256x512.size a)
    (hp : (Rect.unit (s := S8x256x512) o S1x256x512.size ho).PackedRows (EltTy.packing .bf16)) (hj : o = ![j.val, 0, 0])
    (v : FVec F S1x256x512 .f32) (w : FVec F S1x256x512 .bf16) :
    iprop(anyOf (F := F) c (aS b j) ∗ anyOf (F := F) c (bS b j))
      ⊢ iprop(((ownsTc c (aS b j) fullShare v ∗ ownsTc c (bS b j) fullShare w) -∗ wpc c k Q) -∗ wpc c (stAcc b o ho hp v w k) Q) := by
  unfold stAcc
  iintro ⟨Ha, Hb⟩ Hk
  iapply (ldAnyU (acM b) hj) $$ Ha
  iintro Ha
  iapply (stU (acM b) hj) $$ Ha
  iintro Ha
  iapply (ldAnyU (abM b) hj) $$ Hb
  iintro Hb
  iapply (stU (abM b) hj) $$ Hb
  iintro Hb
  iapply Hk
  isplitl [Ha] <;> iassumption

/-- Working a slot's part out. -/
theorem compute_wp (b : Bool) (s : Fin 7) (q : PosShare TreeShare) (w : FVec F S256x2048 .bf16) (x : FVec F S1x256x256 .bf16) (o : FVec F S1x256x32 .bf16) :
    iprop(ownsTc c (xS b (jn b c s.val)) q x ∗ ownsTc c (oS b (jn b c s.val)) q o ∗ SlotB c b s)
      ⊢ iprop(((ownsTc c (xS b (jn b c s.val)) q x ∗ ownsTc c (oS b (jn b c s.val)) q o
            ∗ ownsTc c (aS b (jn b c s.val)) fullShare (hAcc c w x o) ∗ ownsTc c (bS b (jn b c s.val)) fullShare (hAb c w x o)) -∗ wpc c k Q)
          -∗ wpc c (compute c b s w k) Q) := by
  unfold compute SlotB
  iintro ⟨Hx, Ho, Ha, Hb⟩ Hk
  iapply (ldU (xaM b) (xwO_eq b c s)) $$ Hx
  iintro Hx
  iapply (ldU (ohM b) (owO_eq b c s)) $$ Ho
  iintro Ho
  iapply (stAcc_wp c b (jn b c s.val) _ _ _ (awO_eq b c s)) $$ [Ha Hb]
  · isplitl [Ha] <;> iassumption
  iintro ⟨Ha, Hb⟩
  iapply Hk
  isplitl [Hx]; · iexact Hx
  isplitl [Ho]; · iexact Ho
  isplitl [Ha] <;> iassumption

/-- The device's own half: its experts' partial sum of its own tokens. -/
theorem computeOwn_wp (b : Bool) (q : PosShare TreeShare) (w : FVec F S256x2048 .bf16) (x : FVec F S1x256x256 .bf16) (o : FVec F S1x256x32 .bf16) :
    iprop(ownsTc c (xS b c) q x ∗ ownsTc c (oS b c) q o ∗ anyOf (F := F) c (aS b c) ∗ anyOf (F := F) c (bS b c))
      ⊢ iprop(((ownsTc c (xS b c) q x ∗ ownsTc c (oS b c) q o
            ∗ ownsTc c (aS b c) fullShare (hAcc c w x o) ∗ anyOf (F := F) c (bS b c)) -∗ wpc c k Q)
          -∗ wpc c (computeOwn c b w k) Q) := by
  unfold computeOwn
  iintro ⟨Hx, Ho, Ha, Hb⟩ Hk
  iapply (ldU (xaM b) (k0_off1_eq c)) $$ Hx
  iintro Hx
  iapply (ldU (ohM b) (k0_off2_eq c)) $$ Ho
  iintro Ho
  iapply (stAcc_wp c b c _ _ _ (k0_off7_eq c)) $$ [Ha Hb]
  · isplitl [Ha] <;> iassumption
  iintro ⟨Ha, Hb⟩
  iapply Hk
  isplitl [Hx]; · iexact Hx
  isplitl [Ho]; · iexact Ho
  isplitl [Ha]; · iexact Ha
  iapply (any_of (c := c) (bS b c) _); iexact Hb

/-! What the transfers hand over, at the sender's names for the slots. -/

/-- The tokens' half that comes back to the sender once sent. -/
theorem pay_x0 (b : Bool) (t : Fin 7) : (ownsTc c (xS b (sl b c t.val)) fullShare.right (Xv I b (sl b c t.val)) : sProp 𝕄) ⊢ pay I c (.inr (b, 0, t)) false :=
  Entails.of_eq rfl
/-- The gates' half that comes back to the sender once sent. -/
theorem pay_o0 (b : Bool) (t : Fin 7) : (ownsTc c (oS b (sl b c t.val)) fullShare.right (Ov I b (sl b c t.val)) : sProp 𝕄) ⊢ pay I c (.inr (b, 2, t)) false :=
  Entails.of_eq rfl
/-- The sums' slot that comes back to the sender once sent. -/
theorem pay_r0 (b : Bool) (t : Fin 7) : (ownsTc c (bS b (jn b c t.val)) fullShare (Sv I b t.val c) : sProp 𝕄) ⊢ pay I c (.inr (b, 4, t)) false :=
  Entails.of_eq rfl
/-- The tokens that arrive at the neighbour. -/
theorem pay_x1 (b : Bool) (t : Fin 7) : (ownsTc (nx b c) (xS b (sl b c t.val)) fullShare (Xv I b (sl b c t.val)) : sProp 𝕄) ⊢ pay I (nx b c) (.inr (b, 1, t)) false := by
  show _ ⊢ (ownsTc (nx b c) (xS b (jn b (nx b c) t.val)) fullShare (Xv I b (jn b (nx b c) t.val)) : sProp 𝕄)
  rw [jn_nx]
/-- The gates that arrive at the neighbour. -/
theorem pay_o1 (b : Bool) (t : Fin 7) : (ownsTc (nx b c) (oS b (sl b c t.val)) fullShare (Ov I b (sl b c t.val)) : sProp 𝕄) ⊢ pay I (nx b c) (.inr (b, 3, t)) false := by
  show _ ⊢ (ownsTc (nx b c) (oS b (jn b (nx b c) t.val)) fullShare (Ov I b (jn b (nx b c) t.val)) : sProp 𝕄)
  rw [jn_nx]
/-- The sums that arrive at the neighbour. -/
theorem pay_r1 (b : Bool) (t : Fin 7) : (ownsTc (nx b c) (cS b t) fullShare (Sv I b t.val c) : sProp 𝕄) ⊢ pay I (nx b c) (.inr (b, 5, t)) false := by
  show _ ⊢ (ownsTc (nx b c) (cS b t) fullShare (Sv I b t.val (nx (!b) (nx b c))) : sProp 𝕄)
  rw [nx_nx']

/-- What the wait for the sent tokens gives back. -/
theorem got_x0 (b : Bool) (t : Fin 7) : pay I c (.inr (b, 0, t)) false ⊢ (ownsTc c (xS b (sl b c t.val)) fullShare.right (Xv I b (sl b c t.val)) : sProp 𝕄) :=
  Entails.of_eq rfl
/-- What the wait for the sent gates gives back. -/
theorem got_o0 (b : Bool) (t : Fin 7) : pay I c (.inr (b, 2, t)) false ⊢ (ownsTc c (oS b (sl b c t.val)) fullShare.right (Ov I b (sl b c t.val)) : sProp 𝕄) :=
  Entails.of_eq rfl
/-- What the wait for the sent sums gives back. -/
theorem got_r0 (b : Bool) (t : Fin 7) : pay I c (.inr (b, 4, t)) false ⊢ (ownsTc c (bS b (jn b c t.val)) fullShare (Sv I b t.val c) : sProp 𝕄) :=
  Entails.of_eq rfl
/-- What the wait for arriving tokens gives. -/
theorem got_x1 (b : Bool) (t : Fin 7) : pay I c (.inr (b, 1, t)) false ⊢ (ownsTc c (xS b (jn b c t.val)) fullShare (Xv I b (jn b c t.val)) : sProp 𝕄) :=
  Entails.of_eq rfl
/-- What the wait for arriving gates gives. -/
theorem got_o1 (b : Bool) (t : Fin 7) : pay I c (.inr (b, 3, t)) false ⊢ (ownsTc c (oS b (jn b c t.val)) fullShare (Ov I b (jn b c t.val)) : sProp 𝕄) :=
  Entails.of_eq rfl
/-- What the wait for arriving sums gives. -/
theorem got_r1 (b : Bool) (t : Fin 7) : pay I c (.inr (b, 5, t)) false ⊢ (ownsTc c (cS b t) fullShare (Sv I b t.val (nx (!b) c)) : sProp 𝕄) :=
  Entails.of_eq rfl

/-- Starting transfer `t`. -/
theorem sendAg_wp (b : Bool) (t : Fin 7) (n1 n2 : Dev nD) (h1 : n1 = nx b c) (h2 : n2 = nx b c) (O : CellTallies nD τ sig Unit)
    (hO : Ow c (pos (b, 3, t)) = O + tallyAt (kcell (nx b c) (.inr (b, 3, t))) () (Nk 3)) :
    iprop(Ctx I K ∗ ownsTc c (xS b (sl b c t.val)) fullShare (Xv I b (sl b c t.val)) ∗ ownsTc c (oS b (sl b c t.val)) fullShare (Ov I b (sl b c t.val))
        ∗ SendB c b t ∗ Owe c (Ow c (pos (b, 1, t))))
      ⊢ iprop(((Out I c b t ∗ Owe c O) -∗ wpc c k Q) -∗ wpc c (sendAg c b t n1 n2 k) Q) := by
  unfold sendAg SendB
  iintro ⟨#HC, Hx, Ho, ⟨Ht0, Ht1, Ht2, Ht3, Hrx, Hro⟩, HO⟩ Hk
  ihave Hx := (share_split (c := c) (xS b (sl b c t.val)) _) $$ Hx
  icases Hx with ⟨Hxl, Hxr⟩
  ihave Ho := (share_split (c := c) (oS b (sl b c t.val)) _) $$ Ho
  icases Ho with ⟨Hol, Hor⟩
  iapply (send_slot I K c b 0 1 t squeezes_S1x256x256_S256x256 (xS b (sl b c t.val)) (xS b (sl b c t.val)) n1 h1 (xsM_eq b c t) (xsM_eq b c t)
      (xs_amount b c t) rfl _ _ (ow_x c b t) (pay_x0 I c b t) (pay_x1 I c b t)) $$ [Hxr Hrx HO Ht0 Ht1]
  · isplitr; · iexact HC
    isplitl [Hxr]; · iexact Hxr
    isplitl [Hrx]; · iexact Hrx
    isplitl [HO]; · iexact HO
    isplitl [Ht0] <;> iassumption
  iintro ⟨Hc0, HO⟩
  iapply (send_slot I K c b 2 3 t squeezes_S1x256x32_S256x32 (oS b (sl b c t.val)) (oS b (sl b c t.val)) n2 h2 (osM_eq b c t) (osM_eq b c t)
      (os_amount b c t) rfl _ _ hO (pay_o0 I c b t) (pay_o1 I c b t)) $$ [Hor Hro HO Ht2 Ht3]
  · isplitr; · iexact HC
    isplitl [Hor]; · iexact Hor
    isplitl [Hro]; · iexact Hro
    isplitl [HO]; · iexact HO
    isplitl [Ht2] <;> iassumption
  iintro ⟨Hc2, HO⟩
  iapply Hk
  isplitr [HO]
  · unfold Out
    isplitl [Hxl]; · iexact Hxl
    isplitl [Hol]; · iexact Hol
    isplitl [Hc0] <;> iassumption
  iexact HO

/-- A transfer's level is at most two above its place. -/
theorem lev_le (p : Bool × Fin 6 × Fin 7) : lev (.inr p) ≤ pos p + 2 := by
  show (if isRecv p then pos p + 2 else 0) ≤ _
  split <;> omega
/-- The counters of the sending side have level zero. -/
theorem lev_sent (b : Bool) (i : Fin 6) (s : Fin 7) (h : ¬ isRecv (b, i, s)) : lev (.inr (b, i, s)) = 0 := if_neg h

/-- Waiting for transfer `s`. -/
theorem waitAg_wp (b : Bool) (s : Fin 7) (n : ℕ) (hn : pos (b, 3, s) < n) (hn' : n < 900) :
    iprop(Ctx I K ∗ RecvB c b s ∗ Owe c (Ow c n))
      ⊢ iprop(((ownsTc c (xS b (jn b c s.val)) fullShare (Xv I b (jn b c s.val)) ∗ ownsTc c (oS b (jn b c s.val)) fullShare (Ov I b (jn b c s.val))
            ∗ z0 c (.inr (b, 1, s)) ∗ z0 c (.inr (b, 3, s)) ∗ Owe c (Ow c n)) -∗ wpc c k Q) -∗ wpc c (waitAg c b 1 3 s k) Q) := by
  have h1 := lev_le (b, 1, s)
  have h3 := lev_le (b, 3, s)
  have h := pos_xo b s
  unfold waitAg RecvB
  iintro ⟨#HC, ⟨Ha1, Ha3, Hc1, Hc3⟩, HO⟩ Hk
  iapply (wait_dma I K c b 1 s n (by omega) hn' (xs_amount b c s 0)) $$ [Hc1 HO Ha1]
  · isplitr; · iexact HC
    isplitl [Hc1]; · iexact Hc1
    isplitl [HO] <;> iassumption
  iintro ⟨HO, Hz1, Hx⟩
  iapply (wait_dma I K c b 3 s n (by omega) hn' (os_amount b c s 0)) $$ [Hc3 HO Ha3]
  · isplitr; · iexact HC
    isplitl [Hc3]; · iexact Hc3
    isplitl [HO] <;> iassumption
  iintro ⟨HO, Hz3, Ho⟩
  iapply Hk
  isplitl [Hx]; · iapply (got_x1 I c b s); iexact Hx
  isplitl [Ho]; · iapply (got_o1 I c b s); iexact Ho
  isplitl [Hz1]; · iexact Hz1
  isplitl [Hz3] <;> iassumption

/-- Sending stage `s`'s partial result. -/
theorem sendRs_wp (b : Bool) (s : Fin 7) (n3 : Dev nD) (h : n3 = nx b c) :
    iprop(Ctx I K ∗ ownsTc c (bS b (jn b c s.val)) fullShare (Sv I b s.val c) ∗ RsS c b s ∗ Owe c (Ow c (pos (b, 5, s))))
      ⊢ iprop(((crd c b 4 s ∗ Owe c (Ow c (pos (b, 5, s) + 1))) -∗ wpc c k Q) -∗ wpc c (sendRs c b s n3 k) Q) := by
  unfold sendRs RsS
  iintro ⟨#HC, Hb, ⟨Ht4, Ht5, Hrc⟩, HO⟩ Hk
  iapply (send_slot I K c b 4 5 s squeezes_S1x256x512_S256x512 (bS b (jn b c s.val)) (cS b s) n3 h (rsM_eq b c s) rfl
      (cm_amount b s) rfl _ _ (ow_r c b s) (pay_r0 I c b s) (pay_r1 I c b s)) $$ [Hb Hrc HO Ht4 Ht5]
  · isplitr; · iexact HC
    isplitl [Hb]; · iexact Hb
    isplitl [Hrc]; · iexact Hrc
    isplitl [HO]; · iexact HO
    isplitl [Ht4] <;> iassumption
  iexact Hk

/-- Waiting for the neighbour's. -/
theorem waitRs_wp (b : Bool) (p : Fin 7) (n : ℕ) (hn : pos (b, 5, p) < n) (hn' : n < 900) :
    iprop(Ctx I K ∗ RsR c b p ∗ Owe c (Ow c n))
      ⊢ iprop(((RsGot I c b p ∗ Owe c (Ow c n)) -∗ wpc c k Q) -∗ wpc c (waitRs c b p k) Q) := by
  have h5 := lev_le (b, 5, p)
  unfold waitRs RsR
  iintro ⟨#HC, ⟨Ha5, Hc5⟩, HO⟩ Hk
  iapply (wait_dma I K c b 5 p n (by omega) hn' (cm_amount b p 0)) $$ [Hc5 HO Ha5]
  · isplitr; · iexact HC
    isplitl [Hc5]; · iexact Hc5
    isplitl [HO] <;> iassumption
  iintro ⟨HO, Hz5, Hc⟩
  iapply Hk
  isplitr [HO]
  · unfold RsGot
    isplitl [Hc]
    · iapply (got_r1 I c b p); iexact Hc
    iexact Hz5
  iexact HO

/-- Adding it on. -/
theorem addRs_wp (b : Bool) (p s : Fin 7) (hs : s.val = p.val + 1) :
    iprop(RsGot I c b p ∗ ownsTc c (aS b (jn b c s.val)) fullShare (Av I b c (jn b c s.val)) ∗ anyOf (F := F) c (bS b (jn b c s.val)))
      ⊢ iprop(((RsGot I c b p ∗ anyOf (F := F) c (aS b (jn b c s.val)) ∗ ownsTc c (bS b (jn b c s.val)) fullShare (Sv I b s.val c)) -∗ wpc c k Q)
          -∗ wpc c (addRs c b p s k) Q) := by
  unfold addRs RsGot
  iintro ⟨⟨Hc, Hz⟩, Ha, Hb⟩ Hk
  iapply (ldU (acM b) (awO_eq b c s)) $$ Ha
  iintro Ha
  iapply (ldU (cmM b) rfl) $$ Hc
  iintro Hc
  ihave Ha := (any_of (c := c) (aS b (jn b c s.val)) _) $$ Ha
  iapply (stAcc_wp c b (jn b c s.val) _ _ _ (awO_eq b c s)) $$ [Ha Hb]
  · isplitl [Ha] <;> iassumption
  iintro ⟨Ha, Hb⟩
  iapply Hk
  isplitl [Hc Hz]
  · isplitl [Hc] <;> iassumption
  isplitl [Ha]
  · iapply (any_of (c := c) (aS b (jn b c s.val)) _); iexact Ha
  rw [hs]; iexact Hb

/-- Waiting for the departures numbered `s`. -/
theorem sent_wp (b : Bool) (s : Fin 7) (k1 k2 : Pg F) :
    iprop(Ctx I K ∗ Out I c b s ∗ SentB c b s ∗ crd c b 4 s ∗ Owe c (Ow c 46))
      ⊢ iprop((((anyOf (F := F) c (xS b (sl b c s.val)) ∗ anyOf (F := F) c (oS b (sl b c s.val)) ∗ z0 c (.inr (b, 0, s)) ∗ z0 c (.inr (b, 2, s))
              ∗ at0 c (.inr (b, 4, s)) ∗ crd c b 4 s) ∗ Owe c (Ow c 46)) -∗ wpc c k Q)
          -∗ wpc c (waitAg c b 0 2 s k) Q) := by
  unfold waitAg Out SentB
  iintro ⟨#HC, ⟨Hx, Ho, Hc0, Hc2⟩, ⟨Ha0, Ha2, Ha4⟩, Hc4, HO⟩ Hk
  iapply (wait_dma I K c b 0 s 46 (by rw [lev_sent b 0 s (by unfold isRecv; simp)]; omega) (by omega) (xs_amount b c s 0)) $$ [Hc0 HO Ha0]
  · isplitr; · iexact HC
    isplitl [Hc0]; · iexact Hc0
    isplitl [HO] <;> iassumption
  iintro ⟨HO, Hz0, Hxr⟩
  iapply (wait_dma I K c b 2 s 46 (by rw [lev_sent b 2 s (by unfold isRecv; simp)]; omega) (by omega) (os_amount b c s 0)) $$ [Hc2 HO Ha2]
  · isplitr; · iexact HC
    isplitl [Hc2]; · iexact Hc2
    isplitl [HO] <;> iassumption
  iintro ⟨HO, Hz2, Hor⟩
  ihave Hx := ((share_join (c := c) (xS b (sl b c s.val)) _).trans (any_of _ _)) $$ [Hx Hxr]
  · isplitl [Hx]; · iexact Hx
    iapply (got_x0 I c b s); iexact Hxr
  ihave Ho := ((share_join (c := c) (oS b (sl b c s.val)) _).trans (any_of _ _)) $$ [Ho Hor]
  · isplitl [Ho]; · iexact Ho
    iapply (got_o0 I c b s); iexact Hor
  iapply Hk
  isplitr [HO]
  · isplitl [Hx]; · iexact Hx
    isplitl [Ho]; · iexact Ho
    isplitl [Hz0]; · iexact Hz0
    isplitl [Hz2]; · iexact Hz2
    isplitl [Ha4] <;> iassumption
  iexact HO

/-- The wait for the sent sums gives their slot back and its counter at zero. -/
theorem rsSent_wp (b : Bool) (s : Fin 7) :
    iprop(Ctx I K ∗ at0 c (.inr (b, 4, s)) ∗ crd c b 4 s ∗ Owe c (Ow c 46))
      ⊢ iprop(((anyOf (F := F) c (bS b (jn b c s.val)) ∗ z0 c (.inr (b, 4, s)) ∗ Owe c (Ow c 46)) -∗ wpc c k Q)
          -∗ wpc c (waitRsSent c b s k) Q) := by
  unfold waitRsSent
  iintro ⟨#HC, Ha4, Hc4, HO⟩ Hk
  iapply (wait_dma I K c b 4 s 46 (by rw [lev_sent b 4 s (by unfold isRecv; simp)]; omega) (by omega) (rs_amount b c s 0)) $$ [Hc4 HO Ha4]
  · isplitr; · iexact HC
    isplitl [Hc4]; · iexact Hc4
    isplitl [HO] <;> iassumption
  iintro ⟨HO, Hz4, Hb⟩
  ihave Hb := (any_of (c := c) (bS b (jn b c s.val)) (Sv I b s.val c)) $$ [Hb]
  · iapply (got_r0 I c b s); iexact Hb
  iapply Hk
  isplitl [Hb]; · iexact Hb
  isplitl [Hz4] <;> iassumption

/-- All departures numbered `s`, in both directions. -/
theorem sentAll_wp (s : Fin 7) :
    iprop(Ctx I K ∗ (Out I c true s ∗ crd c true 4 s ∗ SentB c true s) ∗ (Out I c false s ∗ crd c false 4 s ∗ SentB c false s) ∗ Owe c (Ow c 46))
      ⊢ iprop(((Sent c true s ∗ Sent c false s ∗ Owe c (Ow c 46)) -∗ wpc c k Q) -∗ wpc c (sentAll c s k) Q) := by
  unfold sentAll
  iintro ⟨#HC, ⟨H1, H2, H3⟩, ⟨H4, H5, H6⟩, HO⟩ Hk
  iapply (sent_wp I K c true s k k) $$ [H1 H2 H3 HO]
  · isplitr; · iexact HC
    isplitl [H1]; · iexact H1
    isplitl [H3]; · iexact H3
    isplitl [H2] <;> iassumption
  iintro ⟨⟨Hx, Ho, Hz0, Hz2, Ha, Hc⟩, HO⟩
  iapply (sent_wp I K c false s k k) $$ [H4 H5 H6 HO]
  · isplitr; · iexact HC
    isplitl [H4]; · iexact H4
    isplitl [H6]; · iexact H6
    isplitl [H5] <;> iassumption
  iintro ⟨⟨Hx', Ho', Hz0', Hz2', Ha', Hc'⟩, HO⟩
  iapply (rsSent_wp I K c true s) $$ [Ha Hc HO]
  · isplitr; · iexact HC
    isplitl [Ha]; · iexact Ha
    isplitl [Hc] <;> iassumption
  iintro ⟨Hb, Hz4, HO⟩
  iapply (rsSent_wp I K c false s) $$ [Ha' Hc' HO]
  · isplitr; · iexact HC
    isplitl [Ha']; · iexact Ha'
    isplitl [Hc'] <;> iassumption
  iintro ⟨Hb', Hz4', HO⟩
  iapply Hk
  unfold Sent
  isplitl [Hx Ho Hb Hz0 Hz2 Hz4]
  · isplitl [Hx Ho Hb]
    · isplitl [Hx]; · iexact Hx
      isplitl [Ho] <;> iassumption
    isplitl [Hz0]; · iexact Hz0
    isplitl [Hz2] <;> iassumption
  isplitr [HO]
  · isplitl [Hx' Ho' Hb']
    · isplitl [Hx']; · iexact Hx'
      isplitl [Ho'] <;> iassumption
    isplitl [Hz0']; · iexact Hz0'
    isplitl [Hz2'] <;> iassumption
  iexact HO

/-! ## Stages -/

/-- The first stage of a direction. -/
theorem stage0_wp (b : Bool) (n1 n2 n3 : Dev nD) (h1 : n1 = nx b c) (h2 : n2 = nx b c) (h3 : n3 = nx b c) :
    iprop(Ctx I K ∗ (RecvB c b 0 ∗ SendB c b 1 ∗ SlotB c b 0 ∗ RsS c b 0) ∗ Owe c (Ow c (pos (b, 1, 1))))
      ⊢ iprop((((Out I c b 1 ∗ RsOut c b 0) ∗ Owe c (Ow c (pos (b, 5, 0) + 1))) -∗ wpc c k Q)
          -∗ wpc c (stage0 c b n1 n2 n3 (k0_pay9 (I.ew c)) k) Q) := by
  have e : sl b c (1 : Fin 7).val = jn b c (0 : Fin 7).val := sl_succ b c 0
  unfold stage0
  iintro ⟨#HC, ⟨HR, HS, Hs, Hr⟩, HO⟩ Hk
  iapply (waitAg_wp I K c b 0 (pos (b, 1, 1)) (by cases b <;> decide) (by cases b <;> decide)) $$ [HR HO]
  · isplitr; · iexact HC
    isplitl [HR] <;> iassumption
  iintro ⟨Hx, Ho, Hz1, Hz3, HO⟩
  iapply (sendAg_wp I K c b 1 n1 n2 h1 h2 _ (ow_o c b 1 0 rfl)) $$ [Hx Ho HS HO]
  · rw [e]
    isplitr; · iexact HC
    isplitl [Hx]; · iexact Hx
    isplitl [Ho]; · iexact Ho
    isplitl [HS] <;> iassumption
  unfold Out
  rw [e]
  iintro ⟨⟨Hx, Ho, Hc0, Hc2⟩, HO⟩
  iapply (compute_wp c b 0) $$ [Hx Ho Hs]
  · isplitl [Hx]; · iexact Hx
    isplitl [Ho] <;> iassumption
  iintro ⟨Hx, Ho, Ha, Hb⟩
  iapply (sendRs_wp I K c b 0 n3 h3) $$ [Hb Hr HO]
  · isplitr; · iexact HC
    isplitl [Hb]; · iexact Hb
    isplitl [Hr] <;> iassumption
  iintro ⟨Hc4, HO⟩
  iapply Hk
  unfold RsOut
  isplitr [HO]
  · isplitl [Hx Ho Hc0 Hc2]
    · isplitl [Hx]; · iexact Hx
      isplitl [Ho]; · iexact Ho
      isplitl [Hc0] <;> iassumption
    isplitl [Ha]; · iapply (any_of (c := c) (aS b (jn b c (0 : Fin 7).val)) _); iexact Ha
    isplitl [Hc4]; · iexact Hc4
    isplitl [Hz1] <;> iassumption
  iexact HO

/-- The order of the places within a middle step. -/
theorem pos_mid (b : Bool) (p s t : Fin 7) (hs : s.val = p.val + 1) (ht : t.val = s.val + 1) :
    pos (b, 3, s) < pos (b, 1, t) ∧ pos (b, 1, t) < 900 ∧ pos (b, 5, p) < pos (b, 5, s) ∧ pos (b, 5, s) < 900 := by
  revert b p s t; decide +kernel

/-- A stage between. -/
theorem stageMid_wp (b : Bool) (p s t : Fin 7) (hs : s.val = p.val + 1) (ht : t.val = s.val + 1) (n1 n2 n3 : Dev nD)
    (h1 : n1 = nx b c) (h2 : n2 = nx b c) (h3 : n3 = nx b c) :
    iprop(Ctx I K ∗ (RecvB c b s ∗ SendB c b t ∗ SlotB c b s ∗ RsS c b s ∗ RsR c b p) ∗ Owe c (Ow c (pos (b, 1, t))))
      ⊢ iprop((((Out I c b t ∗ RsOut c b s ∗ RsGot I c b p) ∗ Owe c (Ow c (pos (b, 5, s) + 1))) -∗ wpc c k Q)
          -∗ wpc c (stageMid c b p s t n1 n2 n3 (k0_pay9 (I.ew c)) k) Q) := by
  have e : sl b c t.val = jn b c s.val := by rw [ht]; exact sl_succ b c s.val
  obtain ⟨p1, p2, p3, p4⟩ := pos_mid b p s t hs ht
  unfold stageMid
  iintro ⟨#HC, ⟨HR, HS, Hs, Hr, Hg⟩, HO⟩ Hk
  iapply (waitAg_wp I K c b s _ p1 p2) $$ [HR HO]
  · isplitr; · iexact HC
    isplitl [HR] <;> iassumption
  iintro ⟨Hx, Ho, Hz1, Hz3, HO⟩
  iapply (sendAg_wp I K c b t n1 n2 h1 h2 _ (ow_o c b t s ht)) $$ [Hx Ho HS HO]
  · rw [e]
    isplitr; · iexact HC
    isplitl [Hx]; · iexact Hx
    isplitl [Ho]; · iexact Ho
    isplitl [HS] <;> iassumption
  unfold Out
  rw [e]
  iintro ⟨⟨Hx, Ho, Hc0, Hc2⟩, HO⟩
  iapply (compute_wp c b s) $$ [Hx Ho Hs]
  · isplitl [Hx]; · iexact Hx
    isplitl [Ho] <;> iassumption
  iintro ⟨Hx, Ho, Ha, Hb⟩
  iapply (waitRs_wp I K c b p _ p3 p4) $$ [Hg HO]
  · isplitr; · iexact HC
    isplitl [Hg] <;> iassumption
  iintro ⟨Hg, HO⟩
  ihave Hb := (any_of (c := c) (bS b (jn b c s.val)) _) $$ Hb
  iapply (addRs_wp I c b p s hs) $$ [Hg Ha Hb]
  · isplitl [Hg]; · iexact Hg
    isplitl [Ha]; · iexact Ha
    iexact Hb
  iintro ⟨Hg, Ha, Hb⟩
  iapply (sendRs_wp I K c b s n3 h3) $$ [Hb Hr HO]
  · isplitr; · iexact HC
    isplitl [Hb]; · iexact Hb
    isplitl [Hr] <;> iassumption
  iintro ⟨Hc4, HO⟩
  iapply Hk
  unfold RsOut
  isplitr [HO]
  · isplitl [Hx Ho Hc0 Hc2]
    · isplitl [Hx]; · iexact Hx
      isplitl [Ho]; · iexact Ho
      isplitl [Hc0] <;> iassumption
    isplitr [Hg]
    · isplitl [Ha]; · iexact Ha
      isplitl [Hc4]; · iexact Hc4
      isplitl [Hz1] <;> iassumption
    iexact Hg
  iexact HO

/-- The last stage. -/
theorem stageEnd_wp (b : Bool) (n3 : Dev nD) (h3 : n3 = nx b c) :
    iprop(Ctx I K ∗ (RecvB c b 6 ∗ SlotB c b 6 ∗ RsS c b 6 ∗ RsR c b 5) ∗ Owe c (Ow c (pos (b, 5, 6) - 2)))
      ⊢ iprop((((anyOf (F := F) c (xS b (jn b c 6)) ∗ anyOf (F := F) c (oS b (jn b c 6))) ∗ RsOut c b 6 ∗ RsGot I c b 5) ∗ Owe c (Ow c (pos (b, 5, 6) + 1)) -∗ wpc c k Q)
          -∗ wpc c (stageEnd c b n3 (k0_pay9 (I.ew c)) k) Q) := by
  rw [ow_end]
  unfold stageEnd
  iintro ⟨#HC, ⟨HR, Hs, Hr, Hg⟩, HO⟩ Hk
  iapply (waitAg_wp I K c b 6 (pos (b, 5, 6)) (by cases b <;> decide) (by cases b <;> decide)) $$ [HR HO]
  · isplitr; · iexact HC
    isplitl [HR] <;> iassumption
  iintro ⟨Hx, Ho, Hz1, Hz3, HO⟩
  iapply (compute_wp c b 6) $$ [Hx Ho Hs]
  · isplitl [Hx]; · iexact Hx
    isplitl [Ho] <;> iassumption
  iintro ⟨Hx, Ho, Ha, Hb⟩
  iapply (waitRs_wp I K c b 5 (pos (b, 5, 6)) (by cases b <;> decide) (by cases b <;> decide)) $$ [Hg HO]
  · isplitr; · iexact HC
    isplitl [Hg] <;> iassumption
  iintro ⟨Hg, HO⟩
  ihave Hb := (any_of (c := c) (bS b (jn b c (6 : Fin 7).val)) _) $$ Hb
  iapply (addRs_wp I c b 5 6 rfl) $$ [Hg Ha Hb]
  · isplitl [Hg]; · iexact Hg
    isplitl [Ha]; · iexact Ha
    iexact Hb
  iintro ⟨Hg, Ha, Hb⟩
  iapply (sendRs_wp I K c b 6 n3 h3) $$ [Hb Hr HO]
  · isplitr; · iexact HC
    isplitl [Hb]; · iexact Hb
    isplitl [Hr] <;> iassumption
  iintro ⟨Hc4, HO⟩
  iapply Hk
  unfold RsOut
  isplitr [HO]
  · isplitl [Hx Ho]
    · isplitl [Hx]; · iapply (any_of (c := c) (xS b (jn b c 6)) _); iexact Hx
      iapply (any_of (c := c) (oS b (jn b c 6)) _); iexact Ho
    isplitr [Hg]
    · isplitl [Ha]; · iexact Ha
      isplitl [Hc4]; · iexact Hc4
      isplitl [Hz1] <;> iassumption
    iexact Hg
  iexact HO

end Ring

end Cert.MoE
-- ==== Proof.Work.lean ====
module

public import proofs.«01_k».proof.Proof.Steps

/-! # The rule of the whole body

The stages in sequence, in both directions, between the two barriers. -/

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A load of all of a memref. -/
theorem ldAll {sh : Shape} {e : EltTy} {c : Dev nD} (m : Memref sig .tc .vmem sh e) {Q : Post F} {o : Fin sh.rank → ℕ} (h : o = fun _ => 0)
    {ho : ∀ a, o a + sh.size a ≤ sh.size a} {hl : m.view.LoadsAt (Rect.unit (s := sh) o sh.size ho).toLoadRect}
    {k : ((Rect.unit (s := sh) o sh.size ho).toLoadRect.shape.Idx → Elt F e) → Pg F} {q : PosShare TreeShare} {v : sh.Idx → Elt F e} :
    (ownsTc c m q v : sProp 𝕄)
      ⊢ iprop((ownsTc c m q v -∗ wpc c (k v) Q) -∗ wpc c (.op (.load m (Rect.unit (s := sh) o sh.size ho).toLoadRect hl) k) Q) := by
  subst h
  unfold ownsTc owns
  iintro ⟨%f, %hf, H⟩ Hk
  subst hf
  iapply (wp_load_rect 𝒱₀ (c : Thread nD τ) none Set.univ (m := m) (r := Rect.unit (s := sh) (fun _ => 0) sh.size ho) (S := m.view.set) (f := f)
    (View.set_slice_subset (v := m.view) _)) $$ H
  iintro H
  have e : ((m.access (Rect.unit (s := sh) (fun _ => 0) sh.size ho)).read (Elt F) f) = m.view.read (Elt F) f := by
    funext x
    show m.view.read (Elt F) f ((Rect.unit (s := sh) (fun _ => 0) sh.size ho).emb x) = _
    congr 1
    funext a
    apply Fin.ext
    show 0 + 1 * (x a).val = (x a).val
    omega
  rw [e]
  iapply Hk
  iexists f
  isplitr; · ipureintro; rfl
  iexact H

/-- Each half of the result lies within it. -/
theorem out_inb (b : Bool) : ∀ a, (![if b then 0 else 256, 0] : Fin 2 → ℕ) a + S256x512.size a ≤ S512x512.size a := by revert b; decide
/-- The half of the results of direction `b`. -/
abbrev outR (b : Bool) : Rect S512x512 := Rect.unit (s := S512x512) ![if b then 0 else 256, 0] S256x512.size (out_inb b)
abbrev outS (b : Bool) : Memref sig .tc .vmem S256x512 .f32 := outM.slice (outR b) (fun _ => rfl)

section Ring

variable (I : Ins F) (K : Dev nD × Cell → ℕ) (c : Dev nD)
variable {Q : Post F} {k : Pg F}

/-- Storing the own tokens, -/
theorem stX_wp (b : Bool) (v : FVec F S1x256x256 .bf16) :
    (anyOf c (xS b c) : sProp 𝕄) ⊢ iprop((ownsTc c (xS b c) fullShare v -∗ wpc c k Q) -∗ wpc c (stX c b v k) Q) := by
  unfold stX
  iintro H Hk
  iapply (ldAnyU (xaM b) (k0_off1_eq c)) $$ H
  iintro H
  iapply (stU (xaM b) (k0_off1_eq c)) $$ H
  iexact Hk
/-- the own gates. -/
theorem stO_wp (b : Bool) (v : FVec F S1x256x32 .bf16) :
    (anyOf c (oS b c) : sProp 𝕄) ⊢ iprop((ownsTc c (oS b c) fullShare v -∗ wpc c k Q) -∗ wpc c (stO c b v k) Q) := by
  unfold stO
  iintro H Hk
  iapply (ldAnyU (ohM b) (k0_off2_eq c)) $$ H
  iintro H
  iapply (stU (ohM b) (k0_off2_eq c)) $$ H
  iexact Hk

/-- Writing a half of the results. -/
theorem finish_wp (b : Bool) (o : Fin 2 → ℕ) (ho : ∀ a, o a + S256x512.size a ≤ S512x512.size a) (hO : o = ![if b then 0 else 256, 0])
    (f : Vec F S1x256x512 .f32 → Vec F S1x256x512 .bf16 → FVec F S256x512 .f32) :
    iprop(ownsTc c (aS b c) fullShare (Av I b c c) ∗ RsGot I c b 6 ∗ anyOf (F := F) c (outS b))
      ⊢ iprop(((anyOf (F := F) c (aS b c) ∗ RsGot I c b 6 ∗ ownsTc c (outS b) fullShare (f (Av I b c c) (Sv I b 6 (nx (!b) c)))) -∗ wpc c k Q)
          -∗ wpc c (finish c b o ho f k) Q) := by
  unfold finish RsGot
  iintro ⟨Ha, ⟨Hc, Hz⟩, Ho⟩ Hk
  iapply (ldU (acM b) (k0_off7_eq c)) $$ Ha
  iintro Ha
  iapply (ldU (cmM b) rfl) $$ Hc
  iintro Hc
  iapply (ldAnyU outM hO) $$ Ho
  iintro Ho
  iapply (stU outM hO) $$ Ho
  iintro Ho
  iapply Hk
  isplitl [Ha]; · iapply (any_of (c := c) (aS b c) _); iexact Ha
  isplitl [Hc Hz]
  · isplitl [Hc] <;> iassumption
  iexact Ho

/-! ## Both directions -/

abbrev Two (P : Bool → sProp 𝕄) : sProp 𝕄 := iprop(P true ∗ P false)

/-- Stage `s`'s own needs. -/
def StB (b : Bool) (s : Fin 7) : sProp 𝕄 := iprop(RecvB c b s ∗ SlotB c b s ∗ RsS c b s)

/-- The first stages. -/
theorem pair0_wp (r1 r2 r3 l1 l2 l3 : Dev nD) (h1 : r1 = nx true c) (h2 : r2 = nx true c) (h3 : r3 = nx true c)
    (h4 : l1 = nx false c) (h5 : l2 = nx false c) (h6 : l3 = nx false c) :
    iprop(Ctx I K ∗ Two (F := F) (fun b => StB c b 0) ∗ Two (F := F) (fun b => SendB c b 1) ∗ Owe c (Ow c 4))
      ⊢ iprop(((Two (F := F) (fun b => Out I c b 1) ∗ Two (F := F) (fun b => RsOut c b 0) ∗ Owe c (Ow c 10)) -∗ wpc c k Q)
          -∗ wpc c (stage0 c true r1 r2 r3 (k0_pay9 (I.ew c)) <| stage0 c false l1 l2 l3 (k0_pay9 (I.ew c)) k) Q) := by
  unfold Two StB
  iintro ⟨#HC, ⟨⟨A1, A2, A3⟩, ⟨B1, B2, B3⟩⟩, ⟨As, Bs⟩, HO⟩ Hk
  iapply (stage0_wp I K c true r1 r2 r3 h1 h2 h3) $$ [A1 A2 A3 As HO]
  · isplitr; · iexact HC
    isplitr [HO]
    · isplitl [A1]; · iexact A1
      isplitl [As]; · iexact As
      isplitl [A2] <;> iassumption
    iexact HO
  iintro ⟨⟨Ao, Ar⟩, HO⟩
  iapply (stage0_wp I K c false l1 l2 l3 h4 h5 h6) $$ [B1 B2 B3 Bs HO]
  · isplitr; · iexact HC
    isplitr [HO]
    · isplitl [B1]; · iexact B1
      isplitl [Bs]; · iexact Bs
      isplitl [B2] <;> iassumption
    iexact HO
  iintro ⟨⟨Bo, Br⟩, HO⟩
  iapply Hk
  isplitl [Ao Bo]
  · isplitl [Ao] <;> iassumption
  isplitl [Ar Br]
  · isplitl [Ar] <;> iassumption
  iexact HO

/-- The stages between. -/
theorem pairMid_wp (p s t : Fin 7) (n m n' : ℕ)
    (hp : s.val = p.val + 1 ∧ t.val = s.val + 1 ∧ pos (true, 1, t) = n ∧ pos (true, 5, s) + 1 = m ∧ pos (false, 1, t) = m ∧ pos (false, 5, s) + 1 = n')
    (r1 r2 r3 l1 l2 l3 : Dev nD) (h1 : r1 = nx true c) (h2 : r2 = nx true c) (h3 : r3 = nx true c)
    (h4 : l1 = nx false c) (h5 : l2 = nx false c) (h6 : l3 = nx false c) :
    iprop(Ctx I K ∗ Two (F := F) (fun b => StB c b s) ∗ Two (F := F) (fun b => SendB c b t) ∗ Two (F := F) (fun b => RsR c b p) ∗ Owe c (Ow c n))
      ⊢ iprop(((Two (F := F) (fun b => Out I c b t) ∗ Two (F := F) (fun b => RsOut c b s) ∗ Two (F := F) (fun b => RsGot I c b p) ∗ Owe c (Ow c n')) -∗ wpc c k Q)
          -∗ wpc c (stageMid c true p s t r1 r2 r3 (k0_pay9 (I.ew c)) <| stageMid c false p s t l1 l2 l3 (k0_pay9 (I.ew c)) k) Q) := by
  obtain ⟨hs, ht, e1, e2, e3, e4⟩ := hp
  unfold Two StB
  rw [← e1, ← e4]
  iintro ⟨#HC, ⟨⟨A1, A2, A3⟩, ⟨B1, B2, B3⟩⟩, ⟨As, Bs⟩, ⟨Ap, Bp⟩, HO⟩ Hk
  iapply (stageMid_wp I K c true p s t hs ht r1 r2 r3 h1 h2 h3) $$ [A1 A2 A3 As Ap HO]
  · isplitr; · iexact HC
    isplitr [HO]
    · isplitl [A1]; · iexact A1
      isplitl [As]; · iexact As
      isplitl [A2]; · iexact A2
      isplitl [A3] <;> iassumption
    iexact HO
  rw [e2, ← e3]
  iintro ⟨⟨Ao, Ar, Ag⟩, HO⟩
  iapply (stageMid_wp I K c false p s t hs ht l1 l2 l3 h4 h5 h6) $$ [B1 B2 B3 Bs Bp HO]
  · isplitr; · iexact HC
    isplitr [HO]
    · isplitl [B1]; · iexact B1
      isplitl [Bs]; · iexact Bs
      isplitl [B2]; · iexact B2
      isplitl [B3] <;> iassumption
    iexact HO
  iintro ⟨⟨Bo, Br, Bg⟩, HO⟩
  iapply Hk
  isplitl [Ao Bo]
  · isplitl [Ao] <;> iassumption
  isplitl [Ar Br]
  · isplitl [Ar] <;> iassumption
  isplitl [Ag Bg]
  · isplitl [Ag] <;> iassumption
  iexact HO

/-- The last received slots, held and not sent on. -/
def LastB (b : Bool) : sProp 𝕄 := iprop(anyOf (F := F) c (xS b (jn b c 6)) ∗ anyOf (F := F) c (oS b (jn b c 6)))

/-- The last stages, and the wait for the last partial results. -/
theorem pairEnd_wp (r3 l3 : Dev nD) (h3 : r3 = nx true c) (h6 : l3 = nx false c) :
    iprop(Ctx I K ∗ Two (F := F) (fun b => StB c b 6) ∗ Two (F := F) (fun b => RsR c b 5) ∗ Two (F := F) (fun b => RsR c b 6) ∗ Owe c (Ow c 40))
      ⊢ iprop(((Two (F := F) (fun b => LastB c b) ∗ Two (F := F) (fun b => RsOut c b 6) ∗ Two (F := F) (fun b => RsGot I c b 5)
              ∗ Two (F := F) (fun b => RsGot I c b 6) ∗ Owe c (Ow c 46)) -∗ wpc c k Q)
          -∗ wpc c (stageEnd c true r3 (k0_pay9 (I.ew c)) <| stageEnd c false l3 (k0_pay9 (I.ew c)) <| waitRs c true 6 <| waitRs c false 6 k) Q) := by
  unfold Two StB LastB
  iintro ⟨#HC, ⟨⟨A1, A2, A3⟩, ⟨B1, B2, B3⟩⟩, ⟨Ap, Bp⟩, ⟨Aq, Bq⟩, HO⟩ Hk
  iapply (stageEnd_wp I K c true r3 h3) $$ [A1 A2 A3 Ap HO]
  · isplitr; · iexact HC
    isplitr [HO]
    · isplitl [A1]; · iexact A1
      isplitl [A2]; · iexact A2
      isplitl [A3] <;> iassumption
    iexact HO
  iintro ⟨⟨Al, Ar, Ag⟩, HO⟩
  iapply (stageEnd_wp I K c false l3 h6) $$ [B1 B2 B3 Bp HO]
  · isplitr; · iexact HC
    isplitr [HO]
    · isplitl [B1]; · iexact B1
      isplitl [B2]; · iexact B2
      isplitl [B3] <;> iassumption
    iexact HO
  iintro ⟨⟨Bl, Br, Bg⟩, HO⟩
  iapply (waitRs_wp I K c true 6 46 (by decide) (by decide)) $$ [Aq HO]
  · isplitr; · iexact HC
    isplitl [Aq]; · iexact Aq
    iexact HO
  iintro ⟨Ag', HO⟩
  iapply (waitRs_wp I K c false 6 46 (by decide) (by decide)) $$ [Bq HO]
  · isplitr; · iexact HC
    isplitl [Bq] <;> iassumption
  iintro ⟨Bg', HO⟩
  iapply Hk
  isplitl [Al Bl]
  · isplitl [Al] <;> iassumption
  isplitl [Ar Br]
  · isplitl [Ar] <;> iassumption
  isplitl [Ag Bg]
  · isplitl [Ag] <;> iassumption
  isplitl [Ag' Bg']
  · isplitl [Ag'] <;> iassumption
  iexact HO

/-- All the departures numbered `s`. -/
def EndB (b : Bool) (s : Fin 7) : sProp 𝕄 :=
  iprop(Sent c b s ∗ anyOf (F := F) c (aS b (jn b c s.val)) ∗ z0 c (.inr (b, 1, s)) ∗ z0 c (.inr (b, 3, s)))

/-- The waits for all that a step sent, both directions. -/
theorem pairSent_wp (s : Fin 7) :
    iprop(Ctx I K ∗ Two (F := F) (fun b => Out I c b s) ∗ Two (F := F) (fun b => RsOut c b s) ∗ Two (F := F) (fun b => SentB c b s) ∗ Owe c (Ow c 46))
      ⊢ iprop(((Two (F := F) (fun b => EndB c b s) ∗ Owe c (Ow c 46)) -∗ wpc c k Q) -∗ wpc c (sentAll c s k) Q) := by
  unfold Two EndB RsOut
  iintro ⟨#HC, ⟨Ao, Bo⟩, ⟨⟨Aa, Ac, Az, Ay⟩, ⟨Ba, Bc, Bz, By⟩⟩, ⟨As, Bs⟩, HO⟩ Hk
  iapply (sentAll_wp I K c s) $$ [Ao Bo Ac Bc As Bs HO]
  · isplitr; · iexact HC
    isplitl [Ao Ac As]
    · isplitl [Ao]; · iexact Ao
      isplitl [Ac] <;> iassumption
    isplitr [HO]
    · isplitl [Bo]; · iexact Bo
      isplitl [Bc] <;> iassumption
    iexact HO
  iintro ⟨As, Bs, HO⟩
  iapply Hk
  isplitr [HO]
  · isplitl [Aa Az Ay As]
    · isplitl [As]; · iexact As
      isplitl [Aa]; · iexact Aa
      isplitl [Az] <;> iassumption
    isplitl [Bs]; · iexact Bs
    isplitl [Ba]; · iexact Ba
    isplitl [Bz] <;> iassumption
  iexact HO

/-- Over the seven steps: one by one. -/
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A quantity at every transfer, in both directions. -/
abbrev All (P : Bool → Fin 7 → sProp 𝕄) : sProp 𝕄 := bigSep Finset.univ fun s : Fin 7 => Two (F := F) fun b => P b s

/-- All the stages, the departures waited for. -/
theorem stages_wp (n : Fin 46 → Dev nD) (hn : n = fun i => nx (dirs i) c) :
    iprop(Ctx I K ∗ All (F := F) (StB c) ∗ (bigSep (Finset.univ.erase 0) fun t : Fin 7 => Two (F := F) fun b => SendB c b t) ∗ All (F := F) (RsR c) ∗ Owe c (Ow c 4))
      ⊢ iprop(((Two (F := F) (LastB c) ∗ (bigSep (Finset.univ.erase 0) fun t : Fin 7 => Two (F := F) fun b => Out I c b t) ∗ All (F := F) (RsOut c) ∗ All (F := F) (RsGot I c)
            ∗ Owe c (Ow c 46)) -∗ wpc c k Q)
          -∗ wpc c (stages c n (k0_pay9 (I.ew c)) k) Q) := by
  have e6 (Φ : Fin 7 → sProp 𝕄) : bigSep (Finset.univ.erase 0) Φ = iprop(Φ 1 ∗ Φ 2 ∗ Φ 3 ∗ Φ 4 ∗ Φ 5 ∗ Φ 6) :=
    bigSep_eq_bigSepL_of_eq [1, 2, 3, 4, 5, 6] (by decide) (by decide) Φ
  subst hn
  unfold stages All
  rw [bigSep_fin7, bigSep_fin7, bigSep_fin7, bigSep_fin7, e6, e6]
  iintro ⟨#HC, ⟨A0, A1, A2, A3, A4, A5, A6⟩, ⟨S1, S2, S3, S4, S5, S6⟩, ⟨R0, R1, R2, R3, R4, R5, R6⟩, HO⟩ Hk
  iapply (pair0_wp I K c _ _ _ _ _ _ rfl rfl rfl rfl rfl rfl) $$ [A0 S1 HO]
  · isplitr; · iexact HC
    isplitl [A0]; · iexact A0
    isplitl [S1] <;> iassumption
  iintro ⟨O1, A0, HO⟩
  iapply (pairMid_wp I K c 0 1 2 10 13 16 (by decide) _ _ _ _ _ _ rfl rfl rfl rfl rfl rfl) $$ [A1 S2 R0 HO]
  · isplitr; · iexact HC
    isplitl [A1]; · iexact A1
    isplitl [S2]; · iexact S2
    isplitl [R0] <;> iassumption
  iintro ⟨O2, A1, R0, HO⟩
  iapply (pairMid_wp I K c 1 2 3 16 19 22 (by decide) _ _ _ _ _ _ rfl rfl rfl rfl rfl rfl) $$ [A2 S3 R1 HO]
  · isplitr; · iexact HC
    isplitl [A2]; · iexact A2
    isplitl [S3]; · iexact S3
    isplitl [R1] <;> iassumption
  iintro ⟨O3, A2, R1, HO⟩
  iapply (pairMid_wp I K c 2 3 4 22 25 28 (by decide) _ _ _ _ _ _ rfl rfl rfl rfl rfl rfl) $$ [A3 S4 R2 HO]
  · isplitr; · iexact HC
    isplitl [A3]; · iexact A3
    isplitl [S4]; · iexact S4
    isplitl [R2] <;> iassumption
  iintro ⟨O4, A3, R2, HO⟩
  iapply (pairMid_wp I K c 3 4 5 28 31 34 (by decide) _ _ _ _ _ _ rfl rfl rfl rfl rfl rfl) $$ [A4 S5 R3 HO]
  · isplitr; · iexact HC
    isplitl [A4]; · iexact A4
    isplitl [S5]; · iexact S5
    isplitl [R3] <;> iassumption
  iintro ⟨O5, A4, R3, HO⟩
  iapply (pairMid_wp I K c 4 5 6 34 37 40 (by decide) _ _ _ _ _ _ rfl rfl rfl rfl rfl rfl) $$ [A5 S6 R4 HO]
  · isplitr; · iexact HC
    isplitl [A5]; · iexact A5
    isplitl [S6]; · iexact S6
    isplitl [R4] <;> iassumption
  iintro ⟨O6, A5, R4, HO⟩
  iapply (pairEnd_wp I K c _ _ rfl rfl) $$ [A6 R5 R6 HO]
  · isplitr; · iexact HC
    isplitl [A6]; · iexact A6
    isplitl [R5]; · iexact R5
    isplitl [R6] <;> iassumption
  iintro ⟨HL, A6, R5, R6, HO⟩
  iapply Hk
  isplitl [HL]; · iexact HL
  isplitl [O1 O2 O3 O4 O5 O6]
  · isplitl [O1]; · iexact O1
    isplitl [O2]; · iexact O2
    isplitl [O3]; · iexact O3
    isplitl [O4]; · iexact O4
    isplitl [O5] <;> iassumption
  isplitl [A0 A1 A2 A3 A4 A5 A6]
  · isplitl [A0]; · iexact A0
    isplitl [A1]; · iexact A1
    isplitl [A2]; · iexact A2
    isplitl [A3]; · iexact A3
    isplitl [A4]; · iexact A4
    isplitl [A5] <;> iassumption
  isplitr [HO]
  · isplitl [R0]; · iexact R0
    isplitl [R1]; · iexact R1
    isplitl [R2]; · iexact R2
    isplitl [R3]; · iexact R3
    isplitl [R4]; · iexact R4
    isplitl [R5] <;> iassumption
  iexact HO

/-- All the departures. -/
theorem departures_wp :
    iprop(Ctx I K ∗ All (F := F) (Out I c) ∗ All (F := F) (RsOut c) ∗ All (F := F) (SentB c) ∗ Owe c (Ow c 46))
      ⊢ iprop(((All (F := F) (EndB c) ∗ Owe c (Ow c 46)) -∗ wpc c k Q)
          -∗ wpc c (sentAll c 0 <| sentAll c 1 <| sentAll c 2 <| sentAll c 3 <| sentAll c 4 <| sentAll c 5 <| sentAll c 6 k) Q) := by
  have step (s : Fin 7) (k : Pg F) :
      iprop(Ctx I K ∗ (Two (F := F) (fun b => Out I c b s) ∗ Two (F := F) (fun b => RsOut c b s) ∗ Two (F := F) (fun b => SentB c b s)) ∗ Owe c (Ow c 46))
        ⊢ iprop(((Two (F := F) (fun b => EndB c b s) ∗ Owe c (Ow c 46)) -∗ wpc c k Q) -∗ wpc c (sentAll c s k) Q) := by
    refine .trans ?_ (pairSent_wp I K c s)
    iintro ⟨HC, ⟨H1, H2, H3⟩, H4⟩
    isplitl [HC]; · iexact HC
    isplitl [H1]; · iexact H1
    isplitl [H2]; · iexact H2
    isplitl [H3] <;> iassumption
  unfold All
  rw [bigSep_fin7, bigSep_fin7, bigSep_fin7, bigSep_fin7]
  iintro ⟨#HC, ⟨A0, A1, A2, A3, A4, A5, A6⟩, ⟨B0, B1, B2, B3, B4, B5, B6⟩, ⟨C0, C1, C2, C3, C4, C5, C6⟩, HO⟩ Hk
  iapply (step 0 _) $$ [A0 B0 C0 HO]
  · isplitr; · iexact HC
    isplitr [HO]; · isplitl [A0]; · iexact A0
                    isplitl [B0] <;> iassumption
    iexact HO
  iintro ⟨A0, HO⟩
  iapply (step 1 _) $$ [A1 B1 C1 HO]
  · isplitr; · iexact HC
    isplitr [HO]; · isplitl [A1]; · iexact A1
                    isplitl [B1] <;> iassumption
    iexact HO
  iintro ⟨A1, HO⟩
  iapply (step 2 _) $$ [A2 B2 C2 HO]
  · isplitr; · iexact HC
    isplitr [HO]; · isplitl [A2]; · iexact A2
                    isplitl [B2] <;> iassumption
    iexact HO
  iintro ⟨A2, HO⟩
  iapply (step 3 _) $$ [A3 B3 C3 HO]
  · isplitr; · iexact HC
    isplitr [HO]; · isplitl [A3]; · iexact A3
                    isplitl [B3] <;> iassumption
    iexact HO
  iintro ⟨A3, HO⟩
  iapply (step 4 _) $$ [A4 B4 C4 HO]
  · isplitr; · iexact HC
    isplitr [HO]; · isplitl [A4]; · iexact A4
                    isplitl [B4] <;> iassumption
    iexact HO
  iintro ⟨A4, HO⟩
  iapply (step 5 _) $$ [A5 B5 C5 HO]
  · isplitr; · iexact HC
    isplitr [HO]; · isplitl [A5]; · iexact A5
                    isplitl [B5] <;> iassumption
    iexact HO
  iintro ⟨A5, HO⟩
  iapply (step 6 _) $$ [A6 B6 C6 HO]
  · isplitr; · iexact HC
    isplitr [HO]; · isplitl [A6]; · iexact A6
                    isplitl [B6] <;> iassumption
    iexact HO
  iintro ⟨A6, HO⟩
  iapply Hk
  isplitr [HO]
  · isplitl [A0]; · iexact A0
    isplitl [A1]; · iexact A1
    isplitl [A2]; · iexact A2
    isplitl [A3]; · iexact A3
    isplitl [A4]; · iexact A4
    isplitl [A5] <;> iassumption
  iexact HO

/-! ## Between the barriers -/

/-- The staged operands. -/
def InsB : sProp 𝕄 :=
  iprop(ownsTc c xM fullShare (I.x c) ∗ ownsTc c rwM fullShare (I.rw c) ∗ ownsTc c ixM fullShare (I.ix c) ∗ ownsTc c ewM fullShare (I.ew c)
    ∗ ownsTc c swM fullShare (I.sw c))
/-- The own slots. -/
def OwnB (b : Bool) : sProp 𝕄 :=
  iprop(anyOf (F := F) c (xS b c) ∗ anyOf (F := F) c (oS b c) ∗ anyOf (F := F) c (aS b c) ∗ anyOf (F := F) c (bS b c))
/-- What the body is left with. -/
def DoneB (b : Bool) : sProp 𝕄 := iprop(LastB c b ∗ anyOf (F := F) c (aS b c) ∗ anyOf (F := F) c (bS b c))

/-- What is to be sent: the first step's and the others'. -/
theorem SendB_split : All (F := F) (SendB c) = iprop(Two (F := F) (fun b => SendB c b 0) ∗ bigSep (Finset.univ.erase 0) fun t : Fin 7 => Two (F := F) fun b => SendB c b t) :=
  bigSep_univ_at _ 0
/-- What is under way: the first step's and the others'. -/
theorem Out_split : All (F := F) (Out I c) = iprop(Two (F := F) (fun b => Out I c b 0) ∗ bigSep (Finset.univ.erase 0) fun t : Fin 7 => Two (F := F) fun b => Out I c b t) :=
  bigSep_univ_at _ 0

/-- The first tokens and gates are sent. -/
theorem send0_wp (b : Bool) (n1 n2 : Dev nD) (h1 : n1 = nx b c) (h2 : n2 = nx b c) :
    iprop(Ctx I K ∗ ownsTc c (xS b c) fullShare (Xv I b c) ∗ ownsTc c (oS b c) fullShare (Ov I b c) ∗ SendB c b 0 ∗ Owe c (Ow c (pos (b, 1, 0))))
      ⊢ iprop(((Out I c b 0 ∗ Owe c (Ow c (pos (b, 3, 0) + 1))) -∗ wpc c k Q) -∗ wpc c (sendAg c b 0 n1 n2 k) Q) := by
  refine .trans ?_ (sendAg_wp I K c b 0 n1 n2 h1 h2 _ (ow_o0 c b))
  show _ ⊢ iprop(Ctx I K ∗ ownsTc c (xS b (sl b c 0)) fullShare (Xv I b (sl b c 0)) ∗ ownsTc c (oS b (sl b c 0)) fullShare (Ov I b (sl b c 0)) ∗ _)
  rw [sl_zero]

/-- What is kept of a slot while the first copy is under way. -/
theorem ownOut (b : Bool) : Out I c b 0 = iprop(ownsTc c (xS b c) fullShare.left (Xv I b c) ∗ ownsTc c (oS b c) fullShare.left (Ov I b c)
    ∗ crd c b 0 0 ∗ crd c b 2 0) := by
  show iprop(ownsTc c (xS b (sl b c 0)) fullShare.left (Xv I b (sl b c 0)) ∗ ownsTc c (oS b (sl b c 0)) fullShare.left (Ov I b (sl b c 0)) ∗ _) = _
  rw [sl_zero]

/-- The device's own partial sum, while its tokens are under way. -/
theorem own_wp (b : Bool) :
    iprop(Out I c b 0 ∗ anyOf (F := F) c (aS b c) ∗ anyOf (F := F) c (bS b c))
      ⊢ iprop(((Out I c b 0 ∗ ownsTc c (aS b c) fullShare (Av I b c c) ∗ anyOf (F := F) c (bS b c)) -∗ wpc c k Q)
          -∗ wpc c (computeOwn c b (k0_pay9 (I.ew c)) k) Q) := by
  rw [ownOut]
  iintro ⟨⟨Hx, Ho, Hc⟩, Ha, Hb⟩ Hk
  iapply (computeOwn_wp c b) $$ [Hx Ho Ha Hb]
  · isplitl [Hx]; · iexact Hx
    isplitl [Ho]; · iexact Ho
    isplitl [Ha] <;> iassumption
  iintro ⟨Hx, Ho, Ha, Hb⟩
  iapply Hk
  isplitl [Hx Ho Hc]
  · isplitl [Hx]; · iexact Hx
    isplitl [Ho] <;> iassumption
  isplitl [Ha]; · iexact Ha
  iexact Hb

/-- The work between the barriers. -/
theorem work_wp (n : Fin 46 → Dev nD) (hn : n = fun i => nx (dirs i) c) :
    iprop(Ctx I K ∗ InsB I c ∗ Two (F := F) (fun b => anyOf (F := F) c (outS b)) ∗ Two (F := F) (OwnB c)
        ∗ All (F := F) (StB c) ∗ All (F := F) (SendB c) ∗ All (F := F) (RsR c) ∗ All (F := F) (SentB c) ∗ Owe c (Ow c 0))
      ⊢ iprop(((InsB I c ∗ Two (F := F) (fun b => ownsTc c (outS b) fullShare (outH I b c)) ∗ Two (F := F) (DoneB c)
            ∗ All (F := F) (EndB c) ∗ All (F := F) (RsGot I c) ∗ Owe c (Ow c 46)) -∗ wpc c k Q)
          -∗ wpc c (work c n k) Q) := by
  have n2 : n 2 = nx true c := by subst hn; rfl
  have n3 : n 3 = nx true c := by subst hn; rfl
  have n4 : n 4 = nx false c := by subst hn; rfl
  have n5 : n 5 = nx false c := by subst hn; rfl
  have g7 (P : Bool → Fin 7 → sProp 𝕄) : All (F := F) P = iprop((Two (F := F) fun b => P b 6) ∗ bigSep (Finset.univ.erase 6) fun t : Fin 7 => Two (F := F) fun b => P b t) :=
    bigSep_univ_at _ 6
  rw [SendB_split]
  unfold work InsB OwnB DoneB Two
  iintro ⟨#HC, ⟨Hx, Hrw, Hix, Hew, Hsw⟩, ⟨Q1, Q2⟩, ⟨⟨X1, O1, A1, B1⟩, ⟨X2, O2, A2, B2⟩⟩, HSt, ⟨⟨S1, S2⟩, HSd⟩, HR, HSe, HO⟩ Hk
  iapply (ldAll xM (by decide)) $$ Hx
  iintro Hx
  iapply (ldAll rwM (by decide)) $$ Hrw
  iintro Hrw
  iapply (ldAll ixM (by decide)) $$ Hix
  iintro Hix
  iapply (stX_wp c true _) $$ X1
  iintro X1
  iapply (stX_wp c false _) $$ X2
  iintro X2
  iapply (stO_wp c true _) $$ O1
  iintro O1
  iapply (stO_wp c false _) $$ O2
  iintro O2
  iapply (ldAll ewM (by decide)) $$ Hew
  iintro Hew
  iapply (send0_wp I K c true _ _ n2 n3) $$ [X1 O1 S1 HO]
  · isplitr; · iexact HC
    isplitl [X1]; · iexact X1
    isplitl [O1]; · iexact O1
    isplitl [S1]; · iexact S1
    iexact HO
  iintro ⟨O1, HO⟩
  iapply (send0_wp I K c false _ _ n4 n5) $$ [X2 O2 S2 HO]
  · isplitr; · iexact HC
    isplitl [X2]; · iexact X2
    isplitl [O2]; · iexact O2
    isplitl [S2]; · iexact S2
    iexact HO
  iintro ⟨O2, HO⟩
  iapply (own_wp I c true) $$ [O1 A1 B1]
  · isplitl [O1]; · iexact O1
    isplitl [A1] <;> iassumption
  iintro ⟨O1, A1, B1⟩
  iapply (own_wp I c false) $$ [O2 A2 B2]
  · isplitl [O2]; · iexact O2
    isplitl [A2] <;> iassumption
  iintro ⟨O2, A2, B2⟩
  iapply (stages_wp I K c n hn) $$ [HSt HSd HR HO]
  · isplitr; · iexact HC
    isplitl [HSt]; · iexact HSt
    isplitl [HSd]; · iexact HSd
    isplitl [HR]; · iexact HR
    iexact HO
  rw [g7 (RsGot I c)]
  unfold Two
  iintro ⟨⟨L1, L2⟩, HOut, HRs, ⟨⟨G1, G2⟩, HG⟩, HO⟩
  iapply (ldAll swM (by decide)) $$ Hsw
  iintro Hsw
  iapply (finish_wp I c true _ _ rfl _) $$ [A1 G1 Q1]
  · isplitl [A1]; · iexact A1
    isplitl [G1] <;> iassumption
  iintro ⟨A1, G1, Q1⟩
  iapply (finish_wp I c false _ _ rfl _) $$ [A2 G2 Q2]
  · isplitl [A2]; · iexact A2
    isplitl [G2] <;> iassumption
  iintro ⟨A2, G2, Q2⟩
  iapply (departures_wp I K c) $$ [O1 O2 HOut HRs HSe HO]
  · isplitr; · iexact HC
    isplitl [O1 O2 HOut]
    · rw [Out_split]
      unfold Two
      isplitl [O1 O2]
      · isplitl [O1] <;> iassumption
      iexact HOut
    isplitl [HRs]; · iexact HRs
    isplitl [HSe] <;> iassumption
  iintro ⟨HE, HO⟩
  iapply Hk
  isplitl [Hx Hrw Hix Hew Hsw]
  · isplitl [Hx]; · iexact Hx
    isplitl [Hrw]; · iexact Hrw
    isplitl [Hix]; · iexact Hix
    isplitl [Hew] <;> iassumption
  isplitl [Q1 Q2]
  · isplitl [Q1]; · iexact Q1
    iexact Q2
  isplitl [L1 L2 A1 A2 B1 B2]
  · isplitl [L1 A1 B1]
    · isplitl [L1]; · iexact L1
      isplitl [A1] <;> iassumption
    isplitl [L2]; · iexact L2
    isplitl [A2] <;> iassumption
  isplitl [HE]; · iexact HE
  isplitl [G1 G2 HG]
  · isplitl [G1 G2]
    · isplitl [G1] <;> iassumption
    iexact HG
  iexact HO

end Ring

end Cert.MoE
-- ==== Proof.Slots.lean ====
module

public import proofs.«01_k».proof.Proof.Work

/-! # Buffers as their slots -/

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Rects

variable {sh : Shape} {e : EltTy} {T : Type} [Fintype T] [DecidableEq T] (r : T → Rect sh) (f : sh.Idx → T)
  (hf : ∀ t i, i ∈ (r t).set ↔ f i = t)
include hf

/-- Parts that are told apart by a function are disjoint, -/
theorem rects_disj (t t' : T) (h : t ≠ t') : Disjoint (r t).set (r t').set :=
  Finset.disjoint_left.mpr fun i h1 h2 => h (((hf t i).mp h1).symm.trans ((hf t' i).mp h2))
/-- and cover everything. -/
theorem rects_cover : (Finset.univ : Finset T).biUnion (fun t => (r t).set) = Finset.univ :=
  Finset.eq_univ_iff_forall.mpr fun i => Finset.mem_biUnion.mpr ⟨f i, Finset.mem_univ _, (hf _ i).mpr rfl⟩

/-- Contents made of the contents `v t` of the parts `r t`. -/
def glue {X : Type} (v : (t : T) → (r t).shape.Idx → X) (i : sh.Idx) : X :=
  v (f i) ((r (f i)).toLoadRect.exists_idx_of_mem ((hf (f i) i).mpr rfl)).choose

/-- The contents put together from parts are each part's contents there. -/
theorem glue_emb {X : Type} (v : (t : T) → (r t).shape.Idx → X) (t : T) (j : (r t).shape.Idx) : glue r f hf v ((r t).emb j) = v t j := by
  have key : ∀ (i : sh.Idx) (t : T) (j : (r t).shape.Idx), (r t).emb j = i → f i = t → glue r f hf v i = v t j := by
    intro i t j h ht
    subst ht
    unfold glue
    congr 1
    apply (r (f i)).emb.injective
    rw [h]
    exact ((r (f i)).toLoadRect.exists_idx_of_mem ((hf (f i) i).mpr rfl)).choose_spec
  exact key _ t j rfl ((hf t _).mp ((r t).toLoadRect.idx_mem j))

/-- A memref at some contents is its parts at some contents, -/
theorem any_split (c : Dev nD) (m : Memref sig .tc .vmem sh e) (hr : ∀ t a, (r t).stride a = 1) :
    (anyOf c m : sProp 𝕄) ⊢ bigSep Finset.univ fun t => anyOf c (m.slice (r t) (hr t)) := by
  iintro ⟨%v, H⟩
  ihave H := (owns_rects (c : Thread nD τ) m fullShare r hr (rects_disj r f hf) (rects_cover r f hf) v) $$ H
  have h : (bigSep Finset.univ fun t => owns (c : Thread nD τ) (m.slice (r t) (hr t)) fullShare (fun j => v ((r t).emb j)) : sProp 𝕄)
      ⊢ bigSep Finset.univ fun t => anyOf c (m.slice (r t) (hr t)) := bigSep_mono fun t _ => any_of (c := c) (m.slice (r t) (hr t)) _
  iapply h
  iexact H

/-- and back, at contents made of the parts'. -/
theorem parts_join (c : Dev nD) (m : Memref sig .tc .vmem sh e) (hr : ∀ t a, (r t).stride a = 1) (v : (t : T) → (r t).shape.Idx → Elt F e) :
    (bigSep Finset.univ fun t => ownsTc c (m.slice (r t) (hr t)) fullShare (v t) : sProp 𝕄) ⊢ ownsTc c m fullShare (glue r f hf v) := by
  refine .trans (Entails.of_eq ?_) (owns_of_rects (c : Thread nD τ) m fullShare r hr (rects_disj r f hf) (rects_cover r f hf) _)
  refine bigSep_congr fun t _ => ?_
  rw [show (fun j => glue r f hf v ((r t).emb j)) = v t from funext fun j => glue_emb r f hf v t j]

/-- The parts at some contents make the whole at some contents. -/
theorem any_join (c : Dev nD) (m : Memref sig .tc .vmem sh e) (hr : ∀ t a, (r t).stride a = 1) :
    (bigSep Finset.univ fun t => anyOf c (m.slice (r t) (hr t)) : sProp 𝕄) ⊢ anyOf c m := by
  iintro H
  ihave H := (BI.bigSep_exists_pi Finset.univ (fun (t : T) (v : (r t).shape.Idx → Elt F e) => (ownsTc c (m.slice (r t) (hr t)) fullShare v : sProp 𝕄))) $$ H
  icases H with ⟨%v, H⟩
  iexists _
  iapply (parts_join r f hf c m hr v)
  iexact H

end Rects

/-! ## The kernel's buffers -/

/-- An index of the tokens' buffer lies in the slot that its first coordinate names. -/
theorem xR_mem (j : Dev nD) (i : S8x256x256.Idx) : i ∈ (xR j).set ↔ (⟨(i 0).val, (i 0).isLt⟩ : Dev nD) = j := by
  have h1 : (i 1).val < 256 := (i 1).isLt
  have h2 : (i 2).val < 256 := (i 2).isLt
  rw [Rect.mem_set_unit, Fin.ext_iff]
  constructor
  · intro h; have := h 0; change j.val ≤ (i 0).val ∧ (i 0).val < j.val + 1 at this; show (i 0).val = j.val; omega
  · intro h a
    change (i 0).val = j.val at h
    fin_cases a
    · show j.val ≤ (i 0).val ∧ (i 0).val < j.val + 1; omega
    · show 0 ≤ (i 1).val ∧ (i 1).val < 0 + 256; omega
    · show 0 ≤ (i 2).val ∧ (i 2).val < 0 + 256; omega
/-- An index of the gates' buffer lies in the slot that its first coordinate names. -/
theorem oR_mem (j : Dev nD) (i : S8x256x32.Idx) : i ∈ (oR j).set ↔ (⟨(i 0).val, (i 0).isLt⟩ : Dev nD) = j := by
  have h1 : (i 1).val < 256 := (i 1).isLt
  have h2 : (i 2).val < 32 := (i 2).isLt
  rw [Rect.mem_set_unit, Fin.ext_iff]
  constructor
  · intro h; have := h 0; change j.val ≤ (i 0).val ∧ (i 0).val < j.val + 1 at this; show (i 0).val = j.val; omega
  · intro h a
    change (i 0).val = j.val at h
    fin_cases a
    · show j.val ≤ (i 0).val ∧ (i 0).val < j.val + 1; omega
    · show 0 ≤ (i 1).val ∧ (i 1).val < 0 + 256; omega
    · show 0 ≤ (i 2).val ∧ (i 2).val < 0 + 32; omega
/-- An index of the sums' buffer lies in the slot that its first coordinate names. -/
theorem aR_mem (j : Dev nD) (i : S8x256x512.Idx) : i ∈ (aR j).set ↔ (⟨(i 0).val, (i 0).isLt⟩ : Dev nD) = j := by
  have h1 : (i 1).val < 256 := (i 1).isLt
  have h2 : (i 2).val < 512 := (i 2).isLt
  rw [Rect.mem_set_unit, Fin.ext_iff]
  constructor
  · intro h; have := h 0; change j.val ≤ (i 0).val ∧ (i 0).val < j.val + 1 at this; show (i 0).val = j.val; omega
  · intro h a
    change (i 0).val = j.val at h
    fin_cases a
    · show j.val ≤ (i 0).val ∧ (i 0).val < j.val + 1; omega
    · show 0 ≤ (i 1).val ∧ (i 1).val < 0 + 256; omega
    · show 0 ≤ (i 2).val ∧ (i 2).val < 0 + 512; omega
/-- An index of the arrivals' buffer lies in the slot that its first coordinate names. -/
theorem cR_mem (k : Fin 7) (i : S7x256x512.Idx) : i ∈ (cR k).set ↔ (⟨(i 0).val, (i 0).isLt⟩ : Fin 7) = k := by
  have h1 : (i 1).val < 256 := (i 1).isLt
  have h2 : (i 2).val < 512 := (i 2).isLt
  rw [Rect.mem_set_unit, Fin.ext_iff]
  constructor
  · intro h; have := h 0; change k.val ≤ (i 0).val ∧ (i 0).val < k.val + 1 at this; show (i 0).val = k.val; omega
  · intro h a
    change (i 0).val = k.val at h
    fin_cases a
    · show k.val ≤ (i 0).val ∧ (i 0).val < k.val + 1; omega
    · show 0 ≤ (i 1).val ∧ (i 1).val < 0 + 256; omega
    · show 0 ≤ (i 2).val ∧ (i 2).val < 0 + 512; omega
/-- An index of the result lies in the half that its row names. -/
theorem outR_mem (b : Bool) (i : S512x512.Idx) : i ∈ (outR b).set ↔ decide ((i 0).val < 256) = b := by
  have h0 : (i 0).val < 512 := (i 0).isLt
  have h1 : (i 1).val < 512 := (i 1).isLt
  rw [Rect.mem_set_unit]
  constructor
  · intro h
    have := h 0
    change (if b then 0 else 256) ≤ (i 0).val ∧ (i 0).val < (if b then 0 else 256) + 256 at this
    cases b <;> simp at this ⊢ <;> omega
  · intro h a
    subst h
    fin_cases a
    · show (if decide ((i 0).val < 256) = true then 0 else 256) ≤ (i 0).val ∧ (i 0).val < (if decide ((i 0).val < 256) = true then 0 else 256) + 256
      by_cases h : (i 0).val < 256 <;> simp [h] <;> omega
    · show 0 ≤ (i 1).val ∧ (i 1).val < 0 + 512; omega

/-- Device `c`'s results. -/
def outAt (I : Ins F) (c : Dev nD) : S512x512.Idx → Elt F .f32 := glue outR (fun i => decide ((i 0).val < 256)) outR_mem fun b => outH I b c

/-- The result's half is what the body stores there. -/
theorem outAt_emb (I : Ins F) (c : Dev nD) (b : Bool) (j : S256x512.Idx) : outAt I c ((outR b).emb j) = outH I b c j :=
  glue_emb outR (fun i => decide ((i 0).val < 256)) outR_mem (fun b => outH I b c) b j

/-- Over both directions: the one and the other. -/
theorem bigSep_bool (Φ : Bool → sProp 𝕄) : bigSep Finset.univ Φ = Two (F := F) Φ := bigSep_univ_eq_bigSepL [true, false] (by decide) (by decide) Φ

/-- The result's buffer splits into its halves, -/
theorem out_split (c : Dev nD) : (anyOf (F := F) c outM : sProp 𝕄) ⊢ Two (F := F) fun b => anyOf (F := F) c (outS b) :=
  (any_split outR (fun i => decide ((i 0).val < 256)) outR_mem c outM fun _ _ => rfl).trans (Entails.of_eq (bigSep_bool _))
/-- which join to the result. -/
theorem out_join (I : Ins F) (c : Dev nD) : (Two (F := F) fun b => ownsTc c (outS b) fullShare (outH I b c)) ⊢ (ownsTc c outM fullShare (outAt I c) : sProp 𝕄) :=
  (Entails.of_eq (bigSep_bool _).symm).trans (parts_join outR (fun i => decide ((i 0).val < 256)) outR_mem c outM (fun _ _ => rfl) _)

/-- All devices: one's own and those received, -/
theorem dev_jn (b : Bool) (c : Dev nD) (Φ : Dev nD → sProp 𝕄) : bigSep Finset.univ Φ = iprop(Φ c ∗ bigSep Finset.univ fun k : Fin 7 => Φ (jn b c k.val)) := by
  rw [bigSep_univ_eq_bigSepL [c, jn b c 0, jn b c 1, jn b c 2, jn b c 3, jn b c 4, jn b c 5, jn b c 6] (by revert b c; decide) (by revert b c; decide), bigSep_fin7]
  rfl
/-- or those sent and the last received. -/
theorem dev_sl (b : Bool) (c : Dev nD) (Φ : Dev nD → sProp 𝕄) :
    bigSep Finset.univ Φ = iprop(Φ (jn b c 6) ∗ bigSep Finset.univ fun k : Fin 7 => Φ (sl b c k.val)) := by
  rw [bigSep_univ_eq_bigSepL [jn b c 6, sl b c 0, sl b c 1, sl b c 2, sl b c 3, sl b c 4, sl b c 5, sl b c 6] (by revert b c; decide) (by revert b c; decide), bigSep_fin7]
  rfl

/-- The tokens' buffer splits into its slots. -/
theorem x_parts (b : Bool) (c : Dev nD) : (anyOf (F := F) c (xaM b) : sProp 𝕄) ⊢ bigSep Finset.univ fun j => anyOf (F := F) c (xS b j) :=
  any_split xR _ xR_mem c (xaM b) fun _ _ => rfl
/-- The gates' buffer splits into its slots. -/
theorem o_parts (b : Bool) (c : Dev nD) : (anyOf (F := F) c (ohM b) : sProp 𝕄) ⊢ bigSep Finset.univ fun j => anyOf (F := F) c (oS b j) :=
  any_split oR _ oR_mem c (ohM b) fun _ _ => rfl
/-- The sums' buffer splits into its slots. -/
theorem a_parts (b : Bool) (c : Dev nD) : (anyOf (F := F) c (acM b) : sProp 𝕄) ⊢ bigSep Finset.univ fun j => anyOf (F := F) c (aS b j) :=
  any_split aR _ aR_mem c (acM b) fun _ _ => rfl
/-- The buffer of sums to send splits into its slots. -/
theorem b_parts (b : Bool) (c : Dev nD) : (anyOf (F := F) c (abM b) : sProp 𝕄) ⊢ bigSep Finset.univ fun j => anyOf (F := F) c (bS b j) :=
  any_split aR _ aR_mem c (abM b) fun _ _ => rfl
/-- The arrivals' buffer splits into its slots. -/
theorem c_parts (b : Bool) (c : Dev nD) : (anyOf (F := F) c (cmM b) : sProp 𝕄) ⊢ bigSep Finset.univ fun k => anyOf (F := F) c (cS b k) :=
  any_split cR _ cR_mem c (cmM b) fun _ _ => rfl
/-- The slots of tokens make their buffer. -/
theorem x_whole (b : Bool) (c : Dev nD) : (bigSep Finset.univ fun j => anyOf (F := F) c (xS b j)) ⊢ (anyOf (F := F) c (xaM b) : sProp 𝕄) :=
  any_join xR _ xR_mem c (xaM b) fun _ _ => rfl
/-- The slots of gates make their buffer. -/
theorem o_whole (b : Bool) (c : Dev nD) : (bigSep Finset.univ fun j => anyOf (F := F) c (oS b j)) ⊢ (anyOf (F := F) c (ohM b) : sProp 𝕄) :=
  any_join oR _ oR_mem c (ohM b) fun _ _ => rfl
/-- The slots of sums make their buffer. -/
theorem a_whole (b : Bool) (c : Dev nD) : (bigSep Finset.univ fun j => anyOf (F := F) c (aS b j)) ⊢ (anyOf (F := F) c (acM b) : sProp 𝕄) :=
  any_join aR _ aR_mem c (acM b) fun _ _ => rfl
/-- The slots of sums to send make their buffer. -/
theorem b_whole (b : Bool) (c : Dev nD) : (bigSep Finset.univ fun j => anyOf (F := F) c (bS b j)) ⊢ (anyOf (F := F) c (abM b) : sProp 𝕄) :=
  any_join aR _ aR_mem c (abM b) fun _ _ => rfl
/-- The slots of arrivals make their buffer. -/
theorem c_whole (b : Bool) (c : Dev nD) : (bigSep Finset.univ fun k => anyOf (F := F) c (cS b k)) ⊢ (anyOf (F := F) c (cmM b) : sProp 𝕄) :=
  any_join cR _ cR_mem c (cmM b) fun _ _ => rfl

/-- The buffers of direction `b`. -/
def Scr (b : Bool) (c : Dev nD) : sProp 𝕄 :=
  iprop(anyOf (F := F) c (xaM b) ∗ anyOf (F := F) c (ohM b) ∗ anyOf (F := F) c (acM b) ∗ anyOf (F := F) c (abM b) ∗ anyOf (F := F) c (cmM b))

/-- Before the body: the own slots, the slots lent, the slots worked on. -/
theorem scr_split (b : Bool) (c : Dev nD) :
    Scr b c ⊢ iprop(OwnB (F := F) c b ∗ (bigSep Finset.univ fun k : Fin 7 => iprop(anyOf (F := F) c (xS b (jn b c k.val)) ∗ anyOf (F := F) c (oS b (jn b c k.val)) ∗ anyOf (F := F) c (cS b k)))
      ∗ bigSep Finset.univ fun k : Fin 7 => SlotB (F := F) c b k) := by
  unfold Scr OwnB SlotB
  rw [bigSep_sep', bigSep_sep', bigSep_sep']
  iintro ⟨Hx, Ho, Ha, Hb, Hc⟩
  ihave Hx := ((x_parts b c).trans (Entails.of_eq (dev_jn b c _))) $$ Hx
  icases Hx with ⟨Hx, Hx'⟩
  ihave Ho := ((o_parts b c).trans (Entails.of_eq (dev_jn b c _))) $$ Ho
  icases Ho with ⟨Ho, Ho'⟩
  ihave Ha := ((a_parts b c).trans (Entails.of_eq (dev_jn b c _))) $$ Ha
  icases Ha with ⟨Ha, Ha'⟩
  ihave Hb := ((b_parts b c).trans (Entails.of_eq (dev_jn b c _))) $$ Hb
  icases Hb with ⟨Hb, Hb'⟩
  ihave Hc := (c_parts b c) $$ Hc
  isplitl [Hx Ho Ha Hb]
  · isplitl [Hx]; · iexact Hx
    isplitl [Ho]; · iexact Ho
    isplitl [Ha] <;> iassumption
  isplitl [Hx' Ho' Hc]
  · isplitl [Hx']; · iexact Hx'
    isplitl [Ho']; · iexact Ho'
    iexact Hc
  isplitl [Ha']; · iexact Ha'
  iexact Hb'

/-- After it: all of them whole. -/
theorem scr_join (b : Bool) (c : Dev nD) :
    iprop(DoneB (F := F) c b ∗ bigSep Finset.univ fun k : Fin 7 => iprop(anyOf (F := F) c (xS b (sl b c k.val)) ∗ anyOf (F := F) c (oS b (sl b c k.val))
        ∗ anyOf (F := F) c (aS b (jn b c k.val)) ∗ anyOf (F := F) c (bS b (jn b c k.val)) ∗ anyOf (F := F) c (cS b k)))
      ⊢ Scr b c := by
  unfold Scr DoneB LastB
  rw [bigSep_sep', bigSep_sep', bigSep_sep', bigSep_sep']
  iintro ⟨⟨⟨Hx, Ho⟩, Ha, Hb⟩, Hx', Ho', Ha', Hb', Hc⟩
  isplitl [Hx Hx']
  · iapply (BIBase.Entails.trans (Entails.of_eq (dev_sl b c fun j => anyOf (F := F) c (xS b j)).symm) (x_whole b c))
    isplitl [Hx] <;> iassumption
  isplitl [Ho Ho']
  · iapply (BIBase.Entails.trans (Entails.of_eq (dev_sl b c fun j => anyOf (F := F) c (oS b j)).symm) (o_whole b c))
    isplitl [Ho] <;> iassumption
  isplitl [Ha Ha']
  · iapply (BIBase.Entails.trans (Entails.of_eq (dev_jn b c fun j => anyOf (F := F) c (aS b j)).symm) (a_whole b c))
    isplitl [Ha] <;> iassumption
  isplitl [Hb Hb']
  · iapply (BIBase.Entails.trans (Entails.of_eq (dev_jn b c fun j => anyOf (F := F) c (bS b j)).symm) (b_whole b c))
    isplitl [Hb] <;> iassumption
  iapply (c_whole b c)
  iexact Hc

end Cert.MoE
-- ==== Proof.Sound.lean ====
module

public import proofs.«01_k».proof.Proof.Slots

/-! # The body from its start to its end -/

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev Xfer : Type := Bool × Fin 6 × Fin 7

/-- Whose cell device `c` fills with a transfer: its own at departures, its neighbour's at arrivals. -/
def payee (c : Dev nD) (p : Xfer) : Dev nD := match p.2.1 with
  | 0 => c | 1 => nx p.1 c | 2 => c | 3 => nx p.1 c | 4 => c | 5 => nx p.1 c

/-- Device `c`'s positions and the tokens of the duties it pays; -/
def lin (c : Dev nD) : sProp 𝕄 :=
  iprop((at0 c (.inl true) ∗ at0 c (.inl false) ∗ bigSep Finset.univ fun p : Xfer => at0 c (.inr p))
    ∗ (tok (nx false c) (.inl true) true ∗ tok (nx true c) (.inl true) false ∗ tok (nx false c) (.inl false) true ∗ tok (nx true c) (.inl false) false)
    ∗ bigSep Finset.univ fun p : Xfer => tok (payee c p) (.inr p) false)
/-- the credits of its waits for the neighbours. -/
def crs (c : Dev nD) : sProp 𝕄 :=
  iprop(cred (tallyAt (kcell c (.inl true)) () 2) ∗ cred (tallyAt (kcell c (.inl false)) () 2)
    ∗ All (F := F) fun b k => iprop(crd c b 1 k ∗ crd c b 3 k ∗ crd c b 5 k))

/-- All transfers: for each direction and step, the six counters. -/
theorem regroupP (Φ : Xfer → sProp 𝕄) :
    bigSep Finset.univ Φ = All (F := F) fun b k => iprop(Φ (b, 0, k) ∗ Φ (b, 1, k) ∗ Φ (b, 2, k) ∗ Φ (b, 3, k) ∗ Φ (b, 4, k) ∗ Φ (b, 5, k)) := by
  have e6 (Ψ : Fin 6 → sProp 𝕄) : bigSep Finset.univ Ψ = iprop(Ψ 0 ∗ Ψ 1 ∗ Ψ 2 ∗ Ψ 3 ∗ Ψ 4 ∗ Ψ 5) :=
    bigSep_univ_eq_bigSepL [0, 1, 2, 3, 4, 5] (by decide) (by decide) Ψ
  rw [bigSep_univ_prod, bigSep_bool]
  unfold All Two
  dsimp only
  rw [bigSep_univ_prod, bigSep_univ_prod, e6, e6]
  simp only [bigSep_sep']

/-- Over all directions and steps: each direction's steps. -/
theorem all_two (P : Bool → Fin 7 → sProp 𝕄) : All (F := F) P = Two (F := F) fun b => bigSep Finset.univ (P b) := bigSep_sep' _ _ _
/-- The same as one product over the pairs. -/
theorem all_prod (P : Bool → Fin 7 → sProp 𝕄) : All (F := F) P = bigSep Finset.univ fun q : Fin 7 × Bool => P q.2 q.1 := by
  rw [bigSep_univ_prod]
  exact bigSep_congr fun k _ => (bigSep_bool _).symm
/-- What follows at each direction and step follows over all. -/
theorem all_mono (P P' : Bool → Fin 7 → sProp 𝕄) (h : ∀ b k, P b k ⊢ P' b k) : All (F := F) P ⊢ All (F := F) P' := by
  rw [all_prod, all_prod]
  exact bigSep_mono fun q _ => h q.2 q.1
/-- Two things at each direction and step are the one over all and the other over all. -/
theorem all_sep (P P' : Bool → Fin 7 → sProp 𝕄) : All (F := F) (fun b k => iprop(P b k ∗ P' b k)) = iprop(All (F := F) P ∗ All (F := F) P') := by
  rw [all_prod, all_prod, all_prod]
  exact bigSep_sep' _ _ _

section Ring

variable (I : Ins F) (K : Dev nD × Cell → ℕ) (c : Dev nD)

/-- The start's parts, dealt to the stages. -/
theorem deal :
    iprop((bigSep Finset.univ fun p : Xfer => at0 c (.inr p)) ∗ (bigSep Finset.univ fun p : Xfer => tok (payee c p) (.inr p) false)
        ∗ (All (F := F) fun b k => iprop(crd c b 1 k ∗ crd c b 3 k ∗ crd c b 5 k)) ∗ (All (F := F) fun b k => lend (F := F) b c (nx b c) k) ∗ All (F := F) (SlotB c))
      ⊢ iprop(All (F := F) (StB c) ∗ All (F := F) (SendB c) ∗ All (F := F) (RsR c) ∗ All (F := F) (SentB c)) := by
  rw [regroupP, regroupP, ← all_sep, ← all_sep, ← all_sep, ← all_sep, ← all_sep, ← all_sep, ← all_sep]
  refine all_mono _ _ fun b k => ?_
  show iprop((at0 c (.inr (b, 0, k)) ∗ at0 c (.inr (b, 1, k)) ∗ at0 c (.inr (b, 2, k)) ∗ at0 c (.inr (b, 3, k)) ∗ at0 c (.inr (b, 4, k)) ∗ at0 c (.inr (b, 5, k)))
      ∗ (tok c (.inr (b, 0, k)) false ∗ tok (nx b c) (.inr (b, 1, k)) false ∗ tok c (.inr (b, 2, k)) false ∗ tok (nx b c) (.inr (b, 3, k)) false
          ∗ tok c (.inr (b, 4, k)) false ∗ tok (nx b c) (.inr (b, 5, k)) false)
      ∗ (crd c b 1 k ∗ crd c b 3 k ∗ crd c b 5 k) ∗ lend (F := F) b c (nx b c) k ∗ SlotB c b k)
    ⊢ iprop(StB c b k ∗ SendB c b k ∗ RsR c b k ∗ SentB c b k)
  unfold StB RecvB RsS SendB RsR SentB lend
  iintro ⟨⟨A0, A1, A2, A3, A4, A5⟩, ⟨T0, T1, T2, T3, T4, T5⟩, ⟨C1, C3, C5⟩, ⟨Lx, Lo, Lc⟩, HS⟩
  isplitl [A1 A3 C1 C3 HS T4 T5 Lc]
  · isplitl [A1 A3 C1 C3]
    · isplitl [A1]; · iexact A1
      isplitl [A3]; · iexact A3
      isplitl [C1] <;> iassumption
    isplitl [HS]; · iexact HS
    isplitl [T4]; · iexact T4
    isplitl [T5] <;> iassumption
  isplitl [T0 T1 T2 T3 Lx Lo]
  · isplitl [T0]; · iexact T0
    isplitl [T1]; · iexact T1
    isplitl [T2]; · iexact T2
    isplitl [T3]; · iexact T3
    isplitl [Lx] <;> iassumption
  isplitl [A5 C5]
  · isplitl [A5] <;> iassumption
  isplitl [A0]; · iexact A0
  isplitl [A2] <;> iassumption

/-- The stages' ends: the slots, and the counters at zero. -/
theorem collect :
    iprop(All (F := F) (EndB c) ∗ All (F := F) (RsGot I c))
      ⊢ iprop((Two (F := F) fun b => bigSep Finset.univ fun k : Fin 7 => iprop(anyOf (F := F) c (xS b (sl b c k.val)) ∗ anyOf (F := F) c (oS b (sl b c k.val))
        ∗ anyOf (F := F) c (aS b (jn b c k.val)) ∗ anyOf (F := F) c (bS b (jn b c k.val)) ∗ anyOf (F := F) c (cS b k)))
        ∗ bigSep Finset.univ fun p : Xfer => z0 c (.inr p)) := by
  rw [regroupP, ← all_two fun b k => iprop(anyOf (F := F) c (xS b (sl b c k.val)) ∗ anyOf (F := F) c (oS b (sl b c k.val))
        ∗ anyOf (F := F) c (aS b (jn b c k.val)) ∗ anyOf (F := F) c (bS b (jn b c k.val)) ∗ anyOf (F := F) c (cS b k)), ← all_sep, ← all_sep]
  refine all_mono _ _ fun b k => ?_
  unfold EndB Sent RsGot
  iintro ⟨⟨⟨⟨Hx, Ho, Hb⟩, Z0, Z2, Z4⟩, Ha, Z1, Z3⟩, Hc, Z5⟩
  isplitr [Z0 Z1 Z2 Z3 Z4 Z5]
  · isplitl [Hx]; · iexact Hx
    isplitl [Ho]; · iexact Ho
    isplitl [Ha]; · iexact Ha
    isplitl [Hb]; · iexact Hb
    iapply (any_of (c := c) (cS b k) _); iexact Hc
  isplitl [Z0]; · iexact Z0
  isplitl [Z1]; · iexact Z1
  isplitl [Z2]; · iexact Z2
  isplitl [Z3]; · iexact Z3
  isplitl [Z4] <;> iassumption

/-- What the entry barrier hands to the neighbour `nx (!b)`: the slots it writes; -/
theorem pay_lend (b : Bool) :
    (bigSep Finset.univ fun k : Fin 7 => iprop(anyOf (F := F) c (xS b (jn b c k.val)) ∗ anyOf (F := F) c (oS b (jn b c k.val)) ∗ anyOf (F := F) c (cS b k)))
      ⊢ pay I (nx (!b) c) (.inl true) b := by
  show _ ⊢ bigSep Finset.univ fun k : Fin 7 => lend (F := F) b (nx (!b) c) (nx b (nx (!b) c)) k
  unfold lend
  rw [nx_nx]
  exact Entails.of_eq rfl
/-- what it gets: the neighbours' slots it writes. -/
theorem got_lend : iprop(pay I c (.inl true) false ∗ pay I c (.inl true) true) ⊢ All (F := F) fun b k => lend (F := F) b c (nx b c) k := by
  rw [all_two]
  have h (b : Bool) : pay I c (.inl true) b ⊢ bigSep Finset.univ fun k : Fin 7 => lend (F := F) b c (nx b c) k := Entails.of_eq rfl
  iintro ⟨H1, H2⟩
  isplitl [H2]
  · iapply (h true); iexact H2
  iapply (h false); iexact H1

variable {Q : Post F}

/-- The body's rule. -/
theorem body_wp :
    iprop(Ctx I K ∗ lin c ∗ crs c ∗ Owe c (O₀ c) ∗ InsB I c ∗ anyOf (F := F) c outM ∗ Two (F := F) (fun b => Scr b c))
      ⊢ iprop(((InsB I c ∗ ownsTc c outM fullShare (outAt I c) ∗ Two (F := F) (fun b => Scr b c) ∗ z0 c (.inl true) ∗ z0 c (.inl false)
            ∗ (bigSep Finset.univ fun p : Xfer => z0 c (.inr p)) ∗ Owe c 0) -∗ Q ⟨⟩)
          -∗ wpc c (body devs) Q) := by
  have hn : devs c = fun i => nx (dirs i) c := devs_eq c
  have n0 : devs c 0 = nx false c := by rw [hn]; rfl
  have n1 : devs c 1 = nx true c := by rw [hn]; rfl
  have n44 : devs c 44 = nx false c := by rw [hn]; rfl
  have n45 : devs c 45 = nx true c := by rw [hn]; rfl
  unfold body lin crs Two wpc
  rw [wp_deviceId]
  iintro ⟨#HC, ⟨⟨Ab, Af, HA⟩, ⟨Tb1, Tb2, Tf1, Tf2⟩, HT⟩, ⟨Cb, Cf, HCr⟩, HO, HI, Hout, ⟨Hs1, Hs2⟩⟩ Hk
  ihave Hs1 := (scr_split true c) $$ Hs1
  icases Hs1 with ⟨Ow1, Le1, Sl1⟩
  ihave Hs2 := (scr_split false c) $$ Hs2
  icases Hs2 with ⟨Ow2, Le2, Sl2⟩
  iapply (meet_wp I K c true barS rfl _ _ n0 n1 (Ow c 0) (mayWait_Ow c (.inl true) 0 (by decide) (by decide))) $$ [HO Tb1 Le1 Tb2 Le2 Cb Ab]
  · isplitr; · iexact HC
    isplitl [HO]; · iexact HO
    isplitl [Tb1]; · iexact Tb1
    isplitl [Le1]; · iapply (pay_lend I c true); iexact Le1
    isplitl [Tb2]; · iexact Tb2
    isplitl [Le2]; · iapply (pay_lend I c false); iexact Le2
    isplitl [Cb] <;> iassumption
  iintro ⟨HO, Zb, Hp⟩
  ihave HL := (got_lend I c) $$ Hp
  ihave HD := (deal c) $$ [HA HT HCr HL Sl1 Sl2]
  · isplitl [HA]; · iexact HA
    isplitl [HT]; · iexact HT
    isplitl [HCr]; · iexact HCr
    isplitl [HL]; · iexact HL
    rw [all_two]
    isplitl [Sl1] <;> iassumption
  icases HD with ⟨HSt, HSd, HR, HSe⟩
  ihave Ho := (out_split c) $$ Hout
  iapply (work_wp I K c _ hn) $$ [HI Ho Ow1 Ow2 HSt HSd HR HSe HO]
  · isplitr; · iexact HC
    isplitl [HI]; · iexact HI
    isplitl [Ho]; · iexact Ho
    isplitl [Ow1 Ow2]
    · isplitl [Ow1] <;> iassumption
    isplitl [HSt]; · iexact HSt
    isplitl [HSd]; · iexact HSd
    isplitl [HR]; · iexact HR
    isplitl [HSe] <;> iassumption
  rw [Ow_last, show finO c = 0 + tallyAt (kcell (nx true c) (.inl false)) () 1 + tallyAt (kcell (nx false c) (.inl false)) () 1 by rw [zero_add]; rfl]
  iintro ⟨HI, Ho, ⟨D1, D2⟩, HE, HG, HO⟩
  iapply (meet_wp I K c false finS rfl _ _ n44 n45 0 (mayWait_of c (csem (.inl false)) 1000 (by rw [lv_kcell c (.inl false)]; decide) 0 (fun g u h => absurd h (Nat.lt_irrefl 0))))
    $$ [HO Tf1 Tf2 Cf Af]
  · isplitr; · iexact HC
    isplitl [HO]; · iexact HO
    isplitl [Tf1]; · iexact Tf1
    isplitr; · unfold pay; iempintro
    isplitl [Tf2]; · iexact Tf2
    isplitr; · unfold pay; iempintro
    isplitl [Cf] <;> iassumption
  iintro ⟨HO, Zf, -, -⟩
  ihave HE := (collect I c) $$ [HE HG]
  · isplitl [HE] <;> iassumption
  icases HE with ⟨⟨E1, E2⟩, HZ⟩
  ihave Hs1 := (scr_join true c) $$ [D1 E1]
  · isplitl [D1] <;> iassumption
  ihave Hs2 := (scr_join false c) $$ [D2 E2]
  · isplitl [D2] <;> iassumption
  ihave Hout := (out_join I c) $$ Ho
  unfold wpc
  rw [wp_ret]
  imodintro
  iapply Hk
  isplitl [HI]; · iexact HI
  isplitl [Hout]; · iexact Hout
  isplitl [Hs1 Hs2]
  · isplitl [Hs1] <;> iassumption
  isplitl [Zb]; · iexact Zb
  isplitl [Zf]; · iexact Zf
  isplitl [HZ] <;> iassumption

end Ring

end Cert.MoE
-- ==== Proof.Ghost.lean ====
module

public import proofs.«01_k».proof.Proof.Sound

/-! # Where the ghost state of the rings comes from -/

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

/-- Different devices or counters are different cells. -/
theorem kcell_injective : Function.Injective fun p : Dev nD × Cell => kcell p.1 p.2 := by
  rintro ⟨c, k⟩ ⟨c', k'⟩ h
  have h1 : c = c' := congrArg (fun g : GSem nD τ sig => g.1.1) h
  have h2 : k = k' := csem_inj (congrArg Prod.snd h)
  rw [h1, h2]

/-- All cells of the rings; -/
def ringCells : Finset (GSem nD τ sig) := Finset.univ.map ⟨_, kcell_injective⟩

/-- the duties of one device's cells: two at either barrier, one at each transfer's semaphore; -/
abbrev Duty : Type := (Bool × Bool) ⊕ Xfer
def dutyAt (c : Dev nD) : Duty → GSem nD τ sig × ℕ × Bool
  | .inl (x, e) => (kcell c (.inl x), 0, e)
  | .inr p => (kcell c (.inr p), 0, false)
/-- Different duties, or duties on different devices, are different. -/
theorem dutyAt_injective : Function.Injective fun p : Dev nD × Duty => dutyAt p.1 p.2 := by
  rintro ⟨c, t⟩ ⟨c', t'⟩ h
  have hk : ∀ t : Duty, ∀ c, (dutyAt c t).1 = kcell c (match t with | .inl (x, _) => .inl x | .inr p => .inr p) := by rintro (⟨x, e⟩ | p) c <;> rfl
  have h1 := kcell_injective (a₁ := (c, _)) (a₂ := (c', _)) (((hk t c).symm.trans (congrArg Prod.fst h)).trans (hk t' c'))
  have h2 := congrArg (fun x : GSem nD τ sig × ℕ × Bool => x.2.2) h
  rcases t with ⟨x, e⟩ | p <;> rcases t' with ⟨x', e'⟩ | p'
  · have hx := Sum.inl.inj (congrArg Prod.snd h1)
    have he : e = e' := h2
    rw [show c = c' from congrArg Prod.fst h1, hx, he]
  · exact absurd (congrArg Prod.snd h1) (fun h => by cases h)
  · exact absurd (congrArg Prod.snd h1) (fun h => by cases h)
  · rw [show c = c' from congrArg Prod.fst h1, Sum.inr.inj (congrArg Prod.snd h1)]
/-- all duties. -/
def ringToks : Finset (GSem nD τ sig × ℕ × Bool) := Finset.univ.map ⟨_, dutyAt_injective⟩

def u₀ : UU := (initOf (Pipeline.cells cfgs cellOf_inj) (Pipeline.launchToks cfgs cellOf_inj), initOf ringCells ringToks)

/-- The tokens of the duties of device `c`'s own cells. -/
def toks (c : Dev nD) : sProp 𝕄 := bigSep Finset.univ fun t : Duty => dutyTok ER (dutyAt c t).1 (dutyAt c t).2.1 (dutyAt c t).2.2

/-- What each device gets of the rings' first state; -/
def G (c : Dev nD) : sProp 𝕄 :=
  iprop((bigSep Finset.univ fun k : Cell => roundState ER (ringRd I) (kcell c k) 0)
    ∗ (bigSep Finset.univ fun k : Cell => iprop(at0 c k ∗ reached ER (kcell c k) 0)) ∗ toks c)

/-- the facts everyone shares, but for the levels; -/
def records (K : Dev nD × Cell → ℕ) : sProp 𝕄 :=
  iprop((bigSep Finset.univ fun p : Dev nD × Cell => cellInv ER (ringRd I) (K p) (kcell p.1 p.2))
    ∗ (bigSep Finset.univ fun p : Dev nD × Cell => reached ER (kcell p.1 p.2) 0))
instance records_persistent (K : Dev nD × Cell → ℕ) : BI.Persistent (records I K) := by unfold records; infer_instance

/-- and what each device's body starts from. -/
def G' (c : Dev nD) : sProp 𝕄 := iprop(∃ K, records I K ∗ lin c)

/-- What the launch holds for the ring is dealt to the devices. -/
theorem fund_ring : BI.own (ER (initOf ringCells ringToks)) ⊢ (|==> bigSep Finset.univ (G I) : sProp 𝕄) := by
  have hX (Φ : GSem nD τ sig → sProp 𝕄) : bigSep ringCells Φ = bigSep Finset.univ fun c : Dev nD => bigSep Finset.univ fun k : Cell => Φ (kcell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd I) ringCells ringToks) $$ HX with ⟨Hst, Hr, Hat, Htok⟩
  imodintro
  ihave Hst := (Entails.of_eq (hX fun g => roundState ER (ringRd I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G
  simp only [bigSep_sep']
  isplitl [Hst]; · iexact Hst
  isplitl [Hat Hr]
  · isplitl [Hat] <;> iassumption
  iexact Htok

/-! ## The semaphores -/

/-- The semaphores the kernel allocates: the exit barrier's and the transfers'. -/
def osem : Unit ⊕ Xfer → SemLoc sig
  | .inl _ => csem (.inl false)
  | .inr p => csem (.inr p)

set_option maxRecDepth 20000 in
/-- The kernel's own counters are scoped and distinct. -/
theorem ownSemFacts : Pipeline.OwnSemFacts cfg0.spec osem where
  isScoped := by decide +kernel
  inj := by
    rintro (⟨⟩ | p) (⟨⟩ | q) h
    · rfl
    · exact absurd (csem_inj (a₁ := .inl false) (a₂ := .inr q) h) (fun h => by cases h)
    · exact absurd (csem_inj (a₁ := .inr p) (a₂ := .inl false) h) (fun h => by cases h)
    · exact congrArg Sum.inr (Sum.inr.inj (csem_inj h))
  disj := by decide +kernel

/-- The kernel's own counters at zero: the second barrier's and the transfers'. -/
theorem ownSems0_eq (c : Dev nD) : (Pipeline.ownSems0 (Ix := Unit) (Name := ℕ) (U := UU) (Lvl := ℕ) (Val := Elt F) (τ := τ) osem c : sProp 𝕄)
    = iprop(z0 c (.inl false) ∗ bigSep Finset.univ fun p : Xfer => z0 c (.inr p)) := by
  unfold Pipeline.ownSems0
  rw [bigSep_univ_sum, bigSep_univ_eq_bigSepL [()] (by decide) (by decide), bigSepL_singleton]
  rfl
set_option maxRecDepth 20000 in
/-- The counter that outlives the kernel is the first barrier's. -/
theorem unscopedSems0_eq (c : Dev nD) : (unscopedSems0 c : sProp 𝕄) = z0 c (.inl true) := by
  unfold unscopedSems0; rw [bigSep_eq_bigSepL_of_eq [SemLoc.reg barS] (by decide +kernel) (by decide)]; rfl

/-- All cells: the two barriers' and the transfers'. -/
theorem cells_split (Φ : Cell → sProp 𝕄) :
    bigSep Finset.univ Φ = iprop((Φ (.inl true) ∗ Φ (.inl false)) ∗ bigSep Finset.univ fun p : Xfer => Φ (.inr p)) := by
  rw [bigSep_univ_sum, bigSep_bool]
  rfl

/-- All counters of a device at zero, cell by cell. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell c k) 0 : sProp 𝕄) := by
  rw [ownSems0_eq, unscopedSems0_eq, cells_split]
  iintro ⟨⟨Hf, Hp⟩, Hb⟩
  isplitl [Hf Hb]
  · isplitl [Hb] <;> iassumption
  iexact Hp

/-- A device's counters at zero become its cells of the ring. -/
theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k : Cell => iprop(∃ κ : ℕ, cellInv ER (ringRd I) κ (kcell c k)))
          ∗ (bigSep Finset.univ fun k : Cell => iprop(at0 c k ∗ reached ER (kcell c k) 0)) ∗ toks c) := by
  unfold G
  have h : iprop((bigSep Finset.univ fun k : Cell => semVal (kcell c k) 0) ∗ bigSep Finset.univ fun k : Cell => roundState ER (ringRd I) (kcell c k) 0)
      ⊢ (|={Set.univ}=> bigSep Finset.univ fun k : Cell => iprop(∃ κ : ℕ, cellInv ER (ringRd I) κ (kcell c k)) : sProp 𝕄) := by
    rw [← bigSep_sep']
    exact (bigSep_mono fun k _ => (Rounds.body_intro ER (ringRd I) (kcell c k)).trans inv_alloc).trans (bigSep_fupd _ _)
  iintro ⟨Hos, Hus, Hst, Hat, Htok⟩
  ihave Hv := (sems0_eq (F := F) c) $$ [Hos Hus]
  · isplitl [Hos] <;> iassumption
  imod h $$ [Hv Hst] with Hinv
  · isplitl [Hv] <;> iassumption
  imodintro
  isplitl [Hinv]; · iexact Hinv
  isplitl [Hat]; · iexact Hat
  iexact Htok

/-! ## The tokens dealt around the rings -/

def nxE (b : Bool) : Dev nD ≃ Dev nD := ⟨nx b, nx (!b), nx_nx' b, nx_nx b⟩

/-- The device which fills cell `p` of device `c`. -/
def payer (c : Dev nD) (p : Xfer) : Dev nD := match p.2.1 with
  | 0 => c | 1 => nx (!p.1) c | 2 => c | 3 => nx (!p.1) c | 4 => c | 5 => nx (!p.1) c

def payE : Dev nD × Xfer ≃ Dev nD × Xfer where
  toFun q := (payee q.1 q.2, q.2)
  invFun q := (payer q.1 q.2, q.2)
  left_inv := by
    rintro ⟨c, b, i, k⟩
    refine Prod.ext ?_ rfl
    fin_cases i <;> first | rfl | exact nx_nx' b c
  right_inv := by
    rintro ⟨c, b, i, k⟩
    refine Prod.ext ?_ rfl
    fin_cases i <;> first | rfl | exact nx_nx b c

/-- Each device's right to signal goes to the device that signals. -/
theorem toks_around : (bigSep Finset.univ fun c : Dev nD => (toks c : sProp 𝕄)) ⊢ bigSep Finset.univ fun c : Dev nD =>
    iprop((tok (nx false c) (.inl true) true ∗ tok (nx true c) (.inl true) false ∗ tok (nx false c) (.inl false) true ∗ tok (nx true c) (.inl false) false)
      ∗ bigSep Finset.univ fun p : Xfer => tok (payee c p) (.inr p) false) := by
  have e (c : Dev nD) : (toks c : sProp 𝕄)
      = iprop(((tok c (.inl true) true ∗ tok c (.inl true) false) ∗ (tok c (.inl false) true ∗ tok c (.inl false) false)) ∗ bigSep Finset.univ fun p : Xfer => tok c (.inr p) false) := by
    unfold toks
    rw [bigSep_univ_sum, bigSep_univ_prod, bigSep_bool]
    unfold Two
    dsimp only
    rw [bigSep_bool, bigSep_bool]
    rfl
  have a (b x e : Bool) : (bigSep Finset.univ fun c : Dev nD => (tok c (.inl x) e : sProp 𝕄)) = bigSep Finset.univ fun c : Dev nD => tok (nx b c) (.inl x) e :=
    bigSep_univ_equiv (nxE b) _
  have p : (bigSep Finset.univ fun c : Dev nD => bigSep Finset.univ fun p : Xfer => (tok c (.inr p) false : sProp 𝕄))
      = bigSep Finset.univ fun c : Dev nD => bigSep Finset.univ fun p : Xfer => tok (payee c p) (.inr p) false := by
    rw [← bigSep_univ_prod fun q : Dev nD × Xfer => (tok q.1 (.inr q.2) false : sProp 𝕄), bigSep_univ_equiv payE, bigSep_univ_prod]
    rfl
  rw [bigSep_congr fun c _ => e c]
  simp only [bigSep_sep']
  rw [a false true true, a true true false, a false false true, a true false false, p]
  iintro ⟨⟨⟨H1, H2⟩, H3, H4⟩, H5⟩
  isplitr [H5]
  · isplitl [H1]; · iexact H1
    isplitl [H2]; · iexact H2
    isplitl [H3] <;> iassumption
  iexact H5

/-- A fact that may be used again goes to every device. -/
theorem share_out {J : Type} [DecidableEq J] {s : Finset J} {R : sProp 𝕄} [BI.Persistent R] {Φ Ψ : J → sProp 𝕄}
    (h : ∀ i, iprop(R ∗ Φ i) ⊢ Ψ i) : iprop(R ∗ bigSep s Φ) ⊢ bigSep s Ψ := by
  refine (sep_mono_left (BI.bigSep_of_persistent s R)).trans ?_
  rw [← bigSep_sep']
  exact bigSep_mono fun i _ => h i

/-- The cells of all devices, once known to all, give each device what its body starts from. -/
theorem regroup :
    (bigSep Finset.univ fun c : Dev nD => iprop((bigSep Finset.univ fun k : Cell => iprop(∃ κ : ℕ, cellInv ER (ringRd I) κ (kcell c k)))
          ∗ (bigSep Finset.univ fun k : Cell => iprop(at0 c k ∗ reached ER (kcell c k) 0)) ∗ toks c) : sProp 𝕄)
      ⊢ bigSep Finset.univ (G' I) := by
  rw [bigSep_sep', bigSep_sep', ← bigSep_univ_prod (fun p : Dev nD × Cell => iprop(∃ κ : ℕ, cellInv ER (ringRd I) κ (kcell p.1 p.2))),
    bigSep_congr (s := Finset.univ) (fun (c : Dev nD) _ => bigSep_sep' Finset.univ (fun k : Cell => (at0 c k : sProp 𝕄)) (fun k => reached ER (kcell c k) 0)),
    bigSep_sep', ← bigSep_univ_prod (fun p : Dev nD × Cell => (reached ER (kcell p.1 p.2) 0 : sProp 𝕄))]
  have hl : iprop((bigSep Finset.univ fun c : Dev nD => bigSep Finset.univ fun k : Cell => (at0 c k : sProp 𝕄)) ∗ bigSep Finset.univ fun c : Dev nD => (toks c : sProp 𝕄))
      ⊢ bigSep Finset.univ fun c : Dev nD => (lin c : sProp 𝕄) := by
    refine (sep_mono_right toks_around).trans ?_
    rw [← bigSep_sep']
    have hc (c : Dev nD) : iprop((bigSep Finset.univ fun k : Cell => (at0 c k : sProp 𝕄))
        ∗ (tok (nx false c) (.inl true) true ∗ tok (nx true c) (.inl true) false ∗ tok (nx false c) (.inl false) true ∗ tok (nx true c) (.inl false) false)
        ∗ bigSep Finset.univ fun p : Xfer => tok (payee c p) (.inr p) false) ⊢ (lin c : sProp 𝕄) := by
      unfold lin
      rw [cells_split]
      iintro ⟨⟨⟨H1, H2⟩, H3⟩, H4⟩
      isplitl [H1 H2 H3]
      · isplitl [H1]; · iexact H1
        isplitl [H2] <;> iassumption
      iexact H4
    exact bigSep_mono fun c _ => hc c
  iintro ⟨HI, ⟨Hat, #HR⟩, Htok⟩
  ihave HK := (BI.bigSep_exists_pi Finset.univ (fun (p : Dev nD × Cell) (κ : ℕ) => (cellInv ER (ringRd I) κ (kcell p.1 p.2) : sProp 𝕄))) $$ HI
  icases HK with ⟨%K, #HI⟩
  ihave Hl := hl $$ [Hat Htok]
  · isplitl [Hat] <;> iassumption
  have hs (c : Dev nD) : iprop(records I K ∗ lin c) ⊢ G' I c := by
    unfold G'
    iintro H
    iexists K
    iexact H
  iapply (share_out hs)
  isplitr
  · unfold records
    isplitr; · iexact HI
    iexact HR
  · iexact Hl

/-- All devices' cells set up at once. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The credits -/

/-- What all devices together owe a cell. -/
theorem owed_sum (b : Bool) (k k' : Cell) (n : ℕ) (c : Dev nD) :
    (∑ d : Dev nD, (tallyAt (kcell (nx b d) k) () n : CellTallies nD τ sig Unit) (kcell c k') ()) = if k = k' then n else 0 := by
  have e (d : Dev nD) : (tallyAt (kcell (nx b d) k) () n : CellTallies nD τ sig Unit) (kcell c k') () = if d = nx (!b) c then (if k = k' then n else 0) else 0 := by
    rw [tallyAt_apply]
    by_cases hk : k = k'
    · subst hk
      by_cases hd : d = nx (!b) c
      · subst hd; rw [nx_nx, if_pos ⟨rfl, rfl⟩, if_pos rfl, if_pos rfl]
      · rw [if_neg, if_neg hd]
        rintro ⟨h, -⟩
        have := congrArg Prod.fst (kcell_injective (a₁ := (c, k)) (a₂ := (nx b d, k)) h)
        exact hd (by rw [show c = nx b d from this, nx_nx'])
    · rw [if_neg, if_neg hk, ite_self]
      rintro ⟨h, -⟩
      exact hk (csem_inj (congrArg Prod.snd h)).symm
  rw [Finset.sum_congr rfl fun d _ => e d, Finset.sum_ite_eq' Finset.univ (nx (!b) c), if_pos (Finset.mem_univ _)]

def due (k : Cell) : ℕ := match k with
  | .inl _ => 2
  | .inr p => if isRecv p then Nk p.2.1 else 0

/-- The debts of all devices to a cell add up to what the cell is due. -/
theorem owed_all (k : Cell) (c : Dev nD) : (∑ d : Dev nD, O₀ d (kcell c k) ()) = due k := by
  unfold O₀ Ow finO
  simp only [Pi.add_apply, Finsupp.add_apply, Finset.sum_apply, Finsupp.finset_sum_apply, Finset.sum_add_distrib]
  rw [Finset.sum_comm]
  simp only [owed_sum]
  rcases k with (_ | _) | p
  · simp [due]
  · simp [due]
  · simp [due, Finset.sum_ite, Finset.filter_filter]

/-- The launch's credit at a cell is what the cell is due. -/
theorem launch_cell (k : Cell) (c : Dev nD) :
    tallyOn (kcell c k) (launchCredit (Pipeline.owing O₀) 0 (kcell c k)) = (tallyAt (kcell c k) () (due k) : CellTallies nD τ sig Unit) := by
  unfold tallyAt; refine congrArg _ (Finsupp.ext fun u => ?_); cases u
  rw [Pipeline.launchCredit_owing, Finsupp.single_eq_same, owed_all]

/-- So each device's waits for its neighbours are paid for. -/
theorem creds (c : Dev nD) : (Pipeline.launchCred O₀ c : sProp 𝕄) ⊢ crs c := by
  have h : (Pipeline.launchCred O₀ c : sProp 𝕄) ⊢ bigSep Finset.univ fun k : Cell => cred (tallyAt (kcell c k) () (due k)) := by
    unfold Pipeline.launchCred
    refine (bigSep_subset (Finset.subset_univ (Finset.univ.map ⟨csem, csem_inj⟩))).trans ?_
    rw [bigSep_map]
    have hk (k : Cell) : (cred (tallyOn (kcell c k) (launchCredit (Pipeline.owing O₀) 0 (kcell c k))) : sProp 𝕄) ⊢ cred (tallyAt (kcell c k) () (due k)) :=
      Entails.of_eq (by rw [launch_cell])
    exact bigSep_mono fun k _ => hk k
  refine h.trans ?_
  unfold crs
  rw [cells_split, regroupP]
  iintro ⟨⟨H1, H2⟩, H3⟩
  isplitl [H1]; · iexact H1
  isplitl [H2]; · iexact H2
  have h3 (b : Bool) (k : Fin 7) : iprop(cred (tallyAt (kcell c (.inr (b, 0, k))) () (due (.inr (b, 0, k)))) ∗ cred (tallyAt (kcell c (.inr (b, 1, k))) () (due (.inr (b, 1, k))))
      ∗ cred (tallyAt (kcell c (.inr (b, 2, k))) () (due (.inr (b, 2, k)))) ∗ cred (tallyAt (kcell c (.inr (b, 3, k))) () (due (.inr (b, 3, k))))
      ∗ cred (tallyAt (kcell c (.inr (b, 4, k))) () (due (.inr (b, 4, k)))) ∗ cred (tallyAt (kcell c (.inr (b, 5, k))) () (due (.inr (b, 5, k)))))
      ⊢ (iprop(crd c b 1 k ∗ crd c b 3 k ∗ crd c b 5 k) : sProp 𝕄) := by
    iintro ⟨-, H1, -, H3, -, H5⟩
    isplitl [H1]; · iexact H1
    isplitl [H3]; · iexact H3
    iexact H5
  iapply (all_mono _ _ h3)
  iexact H3

end Cert.MoE
-- ==== Proof.Launch.lean ====
module

public import proofs.«01_k».proof.Proof.Ghost
public import proofs.«01_k».proof.Proof.Gen.KernelIdeal.Frame
public import Idealize.ShloMosaic.Lib.Pipeline.CollectiveSegs
public import Idealize.ShloMosaic.Adequacy
public import Idealize.ShloMosaic.Init

/-! # The run of the whole program -/

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- What the operands hold on each device. -/
def insOf : Ins F where
  x c := iblk m c 0 t0_0
  rw c := iblk m c 1 t0_0
  ix c := iblk m c 2 t0_0
  ew c := iblk m c 3 t0_0
  sw c := iblk m c 4 t0_0

/-- The scratch buffers of both directions. -/
abbrev Scrs (c : Dev nD) : sProp 𝕄 := Two (F := F) fun b => Scr b c

/-- What device `c`'s body starts from, but for its buffers; -/
def start (c : Dev nD) : sProp 𝕄 := iprop(G' (insOf m) c ∗ crs c ∗ levAts L lv)
def Φ₀ (c : Dev nD) : sProp 𝕄 := iprop(start m c ∗ Scrs c)
/-- what it leaves. -/
def Φ₁ (c : Dev nD) : sProp 𝕄 := iprop(Scrs (F := F) c ∗ z0 c (.inl true) ∗ z0 c (.inl false) ∗ bigSep Finset.univ fun p : Xfer => z0 c (.inr p))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (insOf m).x c
    | ⟨1, _⟩ => (insOf m).rw c
    | ⟨2, _⟩ => (insOf m).ix c
    | ⟨3, _⟩ => (insOf m).ew c
    | ⟨4, _⟩ => (insOf m).sw c
    | ⟨5, _⟩ => outAt (insOf m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body's obligation -/

/-- The one grid point's body is the body as cut into stages. -/
theorem bodyAt_eq : bodyAt0 (F := F) t0_0 = body devs := by
  refine Eq.trans ?_ body_eq
  rw [← cc0_body_eq_skeleton]

/-- The body finds each operand staged whole. -/
theorem before_in (c : Dev nD) (d0 d1 d2 d3 d4) :
    (dats m ρ 0 c).before (0 : Fin 6) t0_0 d0 = (insOf m).x c ∧ (dats m ρ 0 c).before (1 : Fin 6) t0_0 d1 = (insOf m).rw c
      ∧ (dats m ρ 0 c).before (2 : Fin 6) t0_0 d2 = (insOf m).ix c ∧ (dats m ρ 0 c).before (3 : Fin 6) t0_0 d3 = (insOf m).ew c
      ∧ (dats m ρ 0 c).before (4 : Fin 6) t0_0 d4 = (insOf m).sw c := by
  unfold Dat.before
  rw [if_pos (fetch0_0 t0_0), if_pos (fetch0_1 t0_0), if_pos (fetch0_2 t0_0), if_pos (fetch0_3 t0_0), if_pos (fetch0_4 t0_0)]
  exact ⟨rfl, rfl, rfl, rfl, rfl⟩

def bodyPre (c : Dev nD) : sProp 𝕄 :=
  iprop(Φ₀ m c ∗ (dats m ρ 0 c).owesAt () t0_0.castSucc
    ∗ (∃ d, ownsTc c xM fullShare ((dats m ρ 0 c).before (0 : Fin 6) t0_0 d)) ∗ (∃ d, ownsTc c rwM fullShare ((dats m ρ 0 c).before (1 : Fin 6) t0_0 d))
    ∗ (∃ d, ownsTc c ixM fullShare ((dats m ρ 0 c).before (2 : Fin 6) t0_0 d)) ∗ (∃ d, ownsTc c ewM fullShare ((dats m ρ 0 c).before (3 : Fin 6) t0_0 d))
    ∗ (∃ d, ownsTc c swM fullShare ((dats m ρ 0 c).before (4 : Fin 6) t0_0 d)) ∗ (∃ d, ownsTc c outM fullShare ((dats m ρ 0 c).before (5 : Fin 6) t0_0 d)))
def bodyPost (c : Dev nD) : sProp 𝕄 :=
  iprop(Φ₁ (F := F) c ∗ (dats m ρ 0 c).owesAt () t0_0.succ
    ∗ ownsTc c xM fullShare ((insOf m).x c) ∗ ownsTc c rwM fullShare ((insOf m).rw c) ∗ ownsTc c ixM fullShare ((insOf m).ix c)
    ∗ ownsTc c ewM fullShare ((insOf m).ew c) ∗ ownsTc c swM fullShare ((insOf m).sw c) ∗ ownsTc c outM fullShare (outAt (insOf m) c))

/-- The body runs from the staged operands to the result. -/
theorem sound_body (c : Dev nD) : bodyPre m ρ c ⊢ wpc c (body devs) fun _ => bodyPost m ρ c := by
  unfold bodyPre bodyPost Φ₀ Φ₁ start G' Dat.owesAt
  iintro ⟨⟨⟨⟨%K, HR, Hl⟩, Hc, HL⟩, Hs⟩, ⟨%W, -, HO⟩, ⟨%d0, Hx⟩, ⟨%d1, Hrw⟩, ⟨%d2, Hix⟩, ⟨%d3, Hew⟩, ⟨%d4, Hsw⟩, ⟨%d5, Hout⟩⟩
  obtain ⟨e0, e1, e2, e3, e4⟩ := before_in m ρ c d0 d1 d2 d3 d4
  rw [e0, e1, e2, e3, e4]
  iapply (body_wp (insOf m) K c) $$ [HR Hl Hc HL Hs HO Hx Hrw Hix Hew Hsw Hout]
  · isplitl [HR HL]
    · unfold Ctx records
      icases HR with ⟨H1, H2⟩
      isplitl [H1]; · iexact H1
      isplitl [H2] <;> iassumption
    isplitl [Hl]; · iexact Hl
    isplitl [Hc]; · iexact Hc
    isplitl [HO]; · unfold Owe; iexists W; iexact HO
    isplitl [Hx Hrw Hix Hew Hsw]
    · unfold InsB
      isplitl [Hx]; · iexact Hx
      isplitl [Hrw]; · iexact Hrw
      isplitl [Hix]; · iexact Hix
      isplitl [Hew] <;> iassumption
    isplitl [Hout]; · iexists _; iexact Hout
    iexact Hs
  unfold InsB Owe
  iintro ⟨⟨Hx, Hrw, Hix, Hew, Hsw⟩, Hout, Hs, Zb, Zf, HZ, ⟨%W, HO⟩⟩
  isplitl [Hs Zb Zf HZ]
  · isplitl [Hs]; · iexact Hs
    isplitl [Zb]; · iexact Zb
    isplitl [Zf] <;> iassumption
  isplitl [HO]
  · iexists W
    isplitr; · ipureintro; exact fun _ _ => Or.inl trivial
    iexact HO
  isplitl [Hx]; · iexact Hx
  isplitl [Hrw]; · iexact Hrw
  isplitl [Hix]; · iexact Hix
  isplitl [Hew]; · iexact Hew
  isplitl [Hsw] <;> iassumption

set_option maxRecDepth 20000 in
/-- The body meets what the schedule asks of it at its one grid point. -/
theorem body_obligation (c : Dev nD) : BodyObligation (dats (F := F) m ρ 0 c) (defs₀ (F := F)) 𝒱₀ () Set.univ := fun t => by
  rw [fin_N0 t]
  rw [bigSep_W0, bigSep_W0]
  show bodyPre m ρ c ⊢ wp frame (wpE (defs₀ (F := F)) 𝒱₀ c none) Set.univ (bodyAt0 t0_0) (fun _ => bodyPost m ρ c)
  rw [bodyAt_eq]
  exact sound_body m ρ c

/-! ## The launch -/

/-- Every window is held whole. -/
theorem share_eq (c : Dev nD) (w : Fin cfg0.W) : (dats m ρ 0 c).share w = fullShare := by unfold Dat.share; split <;> rfl

/-- What the launch gives a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (insOf m) c)
      ⊢ |={Set.univ}=> iprop(start m c ∗ emp) := by
  iintro ⟨-, HL, Hc, -, HG⟩
  ihave Hc := (creds c) $$ Hc
  imodintro
  unfold start
  isplitl
  · isplitl [HG]; · iexact HG
    isplitl [Hc] <;> iassumption
  iempintro

/-- A whole buffer at some contents, as the launch holds it. -/
theorem any_of_whole (c : Dev nD) (b : Ref sig .tc) :
    (iprop(∃ f : Buf (Elt F) ((c : Thread nD τ).loc b), ((c : Thread nD τ).loc b) ↦{fullShare} f) : sProp 𝕄)
      ⊢ iprop(∃ v, owns (c : Thread nD τ) (Memref.whole b) fullShare v) := by
  unfold owns; simp only [Memref.view_whole, View.read_whole, View.set_whole]
  iintro ⟨%f, H⟩
  iexists f; iexists f
  isplitr; · ipureintro; rfl
  iexact H
/-- A whole buffer at some contents is owned at some contents of the buffer; -/
theorem whole_of_any (c : Dev nD) (b : Ref sig .tc) :
    (iprop(∃ v, owns (c : Thread nD τ) (Memref.whole b) fullShare v) : sProp 𝕄)
      ⊢ iprop(∃ f : Buf (Elt F) ((c : Thread nD τ).loc b), ((c : Thread nD τ).loc b) ↦{fullShare} f) := by
  unfold owns; simp only [Memref.view_whole, View.read_whole, View.set_whole]
  iintro ⟨%v, %f, -, H⟩
  iexists f
  iexact H
/-- and the two ways to say so are equal. -/
theorem whole_any (c : Dev nD) (b : Ref sig .tc) :
    (iprop(∃ f : Buf (Elt F) ((c : Thread nD τ).loc b), ((c : Thread nD τ).loc b) ↦{fullShare} f) : sProp 𝕄)
      = iprop(∃ v, owns (c : Thread nD τ) (Memref.whole b) fullShare v) :=
  Entails.antisymm (any_of_whole c b) (whole_of_any c b)

/-- The scratch buffers, both directions'. -/
theorem rest_scr (c : Dev nD) : (Pipeline.scopedRest (Ix := Unit) (Name := ℕ) (U := UU) (Lvl := ℕ) (Val := Elt F) cfg0.spec c : sProp 𝕄) ⊢ Scrs c := by
  rw [scopedRest0_eq]
  simp only [whole_any]
  unfold Scrs Two Scr
  iintro ⟨H0, H1, H2, H3, H4, H5, H6, H7, H8, H9⟩
  isplitl [H0 H2 H4 H6 H8]
  · isplitl [H0]; · iexact H0
    isplitl [H2]; · iexact H2
    isplitl [H4]; · iexact H4
    isplitl [H6]; · iexact H6
    iexact H8
  · isplitl [H1]; · iexact H1
    isplitl [H3]; · iexact H3
    isplitl [H5]; · iexact H5
    isplitl [H7]; · iexact H7
    iexact H9
/-- The scratch buffers go back to the launch. -/
theorem scr_rest (c : Dev nD) : Scrs c ⊢ (Pipeline.scopedRest (Ix := Unit) (Name := ℕ) (U := UU) (Lvl := ℕ) (Val := Elt F) cfg0.spec c : sProp 𝕄) := by
  rw [scopedRest0_eq]
  simp only [whole_any]
  unfold Scrs Two Scr
  iintro ⟨⟨H0, H2, H4, H6, H8⟩, H1, H3, H5, H7, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body's start and the scratch buffers make the schedule's first invariant. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (rest_scr c); iexact Hr

/-- The schedule's last invariant gives back the counters at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, ownSems0_eq, unscopedSems0_eq]
  unfold Φ₁
  iintro ⟨Hs, Zb, Zf, HZ⟩
  isplitl [Zb]; · iexact Zb
  isplitl [Zf HZ]
  · isplitl [Zf] <;> iassumption
  iapply (scr_rest c); iexact Hs

/-- A device owes only cells of the ring, of positive level. -/
theorem O₀_pos {d : Dev nD} {g : GSem nD τ sig} {u : Unit} (h : 0 < O₀ d g u) : ∃ d' k, g = kcell d' k ∧ 0 < lev k := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨d', k, h | h⟩ := Ow_pos h
      · exact ⟨d', k, h.1, by omega⟩
      · exact ⟨d', _, h, by decide⟩
    · exact ⟨_, .inl true, tally_pos h, by decide⟩
  · exact ⟨_, .inl true, tally_pos h, by decide⟩

set_option maxRecDepth 20000 in
/-- The staging counters have level zero. -/
theorem stage_low (w : Fin cfg0.W) (s : Fin (cfg0.win w).nbuf) :
    (match dec (.dma ((cfg0.win w).sem s)) with | some k => lev k | none => 0) ≤ 0 := by
  revert w s; decide +kernel

/-- The staging waits lie below all that is owed. -/
theorem waits (c : Dev nD) : (levAts L lv : sProp 𝕄) ⊢ Pipeline.cellsWaits cfgs (dats m ρ) () 0 c :=
  Pipeline.cellsWaits_intro cfgs (dats m ρ) () 0 c fun w s t => by
    refine mayWait_of c _ 0 ?_ _ fun g u h => ?_
    · exact stage_low w s
    · rcases t with ⟨_ | _, ht⟩
      · exact O₀_pos h
      · exact absurd h (Nat.lt_irrefl 0)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 20000 in
/-- From any memory with all counters at zero, every fair run of the eight devices ends, each array at the contents the
    schedule gives it and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (insOf m)) (G' := G' (insOf m)) (u₀ := u₀)
    (hu₀ := by
      unfold u₀
      iintro Hu
      ihave H := (ownU_pair _ _) $$ Hu
      icases H with ⟨HP, HX⟩
      imod (fund_ring (insOf m)) $$ HX with HG
      imodintro
      isplitl [HP] <;> iassumption)
    (hglob := glob (insOf m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- Every operand's array ends as it began. -/
theorem finalA_in (c : Dev nD) :
    finalA m ρ c (0 : Fin 6) = m ((c : Thread nD τ).loc main_arg0) ∧ finalA m ρ c (1 : Fin 6) = m ((c : Thread nD τ).loc main_arg1)
      ∧ finalA m ρ c (2 : Fin 6) = m ((c : Thread nD τ).loc main_arg2) ∧ finalA m ρ c (3 : Fin 6) = m ((c : Thread nD τ).loc main_arg3)
      ∧ finalA m ρ c (4 : Fin 6) = m ((c : Thread nD τ).loc main_arg4) :=
  ⟨(dats m ρ 0 c).arrAt_in (0 : Fin 6) rfl _, (dats m ρ 0 c).arrAt_in (1 : Fin 6) rfl _, (dats m ρ 0 c).arrAt_in (2 : Fin 6) rfl _,
    (dats m ρ 0 c).arrAt_in (3 : Fin 6) rfl _, (dats m ρ 0 c).arrAt_in (4 : Fin 6) rfl _⟩

end Cert.MoE
-- ==== Proof.Frames.lean ====
module

public import proofs.«01_k».proof.Defs
public import proofs.«01_k».proof.Proof.Launch
public import proofs.«01_k».proof.Proof.Gen.ReferenceIdeal.Run
public import proofs.«01_k».proof.Proof.Gen.Kernel
public import proofs.«01_k».proof.Proof.Gen.ReferenceIdeal.Run

/-! # The three programs end, and leave their arguments as they were -/

@[expose] public section

noncomputable section

namespace Cert.MoE

open Idealize.ShloMosaic Idealize.ShloMosaic.TcCoe Idealize.SL.Sem

/-- Where every array ends as the schedule says, the five arguments are as they were. -/
theorem frame_of {F : FTy → Type} [FloatOps F] {m : (ℓ : Loc Cert.KernelIdeal.nD Cert.KernelIdeal.τ Cert.KernelIdeal.sig) → Buf (Elt F) ℓ} {ρ : Dev Cert.KernelIdeal.nD → PrngReg}
    {r : PUnit × MemSt Cert.KernelIdeal.nD Cert.KernelIdeal.τ Cert.KernelIdeal.sig (Elt F)} (h : QC m ρ r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) := by
  obtain ⟨e0, e1, e2, e3, e4⟩ := finalA_in m ρ c
  exact ⟨(h c (0 : Fin 6)).trans e0, (h c (1 : Fin 6)).trans e1, (h c (2 : Fin 6)).trans e2, (h c (3 : Fin 6)).trans e3, (h c (4 : Fin 6)).trans e4⟩

/-- The kernel over the extended reals. -/
theorem frame_ideal : Cert.quiescent_KernelIdeal (hKernelIdeal := Cert.KernelIdeal.Gen.facts) := fun m ρ _ =>
  (θ_run _ _ _).mono (fun _ h => ⟨fun c => frame_of h.1 c, h.2⟩) (run_main (F := Ideal) m ρ)

/-- The kernel over bits has the procedures of the kernel over ideal values: the two are one text. -/
theorem defs_eq : (Cert.Kernel.defs (F := Bits)) = Cert.KernelIdeal.defs (F := Bits) := by chain_rfl
/-- … and the same entry point. -/
theorem main_eq : (Cert.Kernel.main (F := Bits)) = Cert.KernelIdeal.main (F := Bits) := by chain_rfl

/-- Over bits, every run leaves the five argument arrays as they were and no counter raised. -/
theorem frame_any (m) (ρ) : (θ_run (Cert.KernelIdeal.defs (F := Bits)) (onTc Cert.KernelIdeal.main) (s₀ m ρ)) (fun r =>
    (∀ c : Dev Cert.KernelIdeal.nD, r.2.mem (c.tc.loc Cert.KernelIdeal.main_arg0) = m (c.tc.loc Cert.KernelIdeal.main_arg0)
      ∧ r.2.mem (c.tc.loc Cert.KernelIdeal.main_arg1) = m (c.tc.loc Cert.KernelIdeal.main_arg1)
      ∧ r.2.mem (c.tc.loc Cert.KernelIdeal.main_arg2) = m (c.tc.loc Cert.KernelIdeal.main_arg2)
      ∧ r.2.mem (c.tc.loc Cert.KernelIdeal.main_arg3) = m (c.tc.loc Cert.KernelIdeal.main_arg3)
      ∧ r.2.mem (c.tc.loc Cert.KernelIdeal.main_arg4) = m (c.tc.loc Cert.KernelIdeal.main_arg4)) ∧ r.2.sem = fun _ => 0) :=
  (θ_run Cert.KernelIdeal.defs _ _).mono (fun _ h => ⟨fun c => frame_of h.1 c, h.2⟩) (run_main (F := Bits) m ρ)

/-- The same of the kernel over bits. -/
theorem frame_kernel : Cert.quiescent_Kernel (hKernel := Cert.Kernel.Gen.facts) := by
  intro m ρ _
  rw [defs_eq, main_eq]
  exact frame_any m ρ

/-- The reference leaves its five argument arrays as they were, and no counter raised: it has none. -/
theorem frame_reference : Cert.quiescent_ReferenceIdeal (hReferenceIdeal := Cert.ReferenceIdeal.Gen.facts) := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.MoE
-- ==== Proof.Gate.lean ====
module

public import proofs.«01_k».proof.Proof.Protocol
public import Idealize.ShloMosaic.Lib.Pointwise
public import Idealize.ShloMosaic.PureOps.Ideal

/-! # What the kernel's payloads are over the reals, entry by entry -/

@[expose] public section

noncomputable section

namespace Cert.MoE

open Idealize.ShloMosaic Cert.KernelIdeal Cert.KernelIdeal.Gen

/-- The router's score of expert `e` for a token `x`. -/
def score (rw : FVec Ideal S256x32 .f32) (x : Fin 256 → EReal) (e : Fin 32) : EReal := ∑ k : Fin 256, x k * rw (ix2 k e)
/-- The greatest score. -/
def top (rw : FVec Ideal S256x32 .f32) (x : Fin 256 → EReal) : EReal :=
  Finset.univ.fold max (Ideal.ofBits .f32 0xFF800000#32) fun e => score rw x e
/-- Expert `e`'s gate for a token `x` sent to expert `i`: its share of the exponentials if it is that expert, else zero. -/
def gate (rw : FVec Ideal S256x32 .f32) (x : Fin 256 → EReal) (i : BitVec 32) (e : Fin 32) : EReal :=
  Scalar.select (IntOp.cmpi .eq (BitVec.ofNat 32 e.val) i)
    (Ideal.div (Ideal.exp (score rw x e - top rw x)) (∑ e', Ideal.exp (score rw x e' - top rw x))) 0

set_option maxRecDepth 16384 in
/-- The kernel's gates are these. -/
theorem pay2_at (x : Vec Ideal S512x256 .f32) (rw : Vec Ideal S256x32 .f32) (ix : Vec Ideal S512x1 .i32) (r : Fin 512) (e : Fin 32) :
    k0_pay2 x rw ix (ix2 r e) = gate rw (fun k => x (ix2 r k)) (ix (ix2 r 0)) e := by
  pointwise [k0_pay2, k0_pay1]
  rfl

/-- Row `r` of half `b` of 512 rows. -/
def row (b : Bool) (r : Fin 256) : Fin 512 := ⟨(if b then 0 else 256) + r.val, by cases b <;> simp <;> omega⟩

variable (I : Ins Ideal)

set_option maxRecDepth 16384 in
/-- What a device sends of its tokens in direction `b`: that half of the rows. -/
theorem Xv_at (b : Bool) (j : Dev nD) (r k : Fin 256) : Xv I b j (ix3 0 r k) = I.x j (ix2 (row b r) k) := by
  cases b <;> unfold Xv <;> pointwise [k0_pay4, k0_pay5, k0_pay3, k0_pay1] <;> simp [row]

set_option maxRecDepth 16384 in
/-- What it sends of its gates. -/
theorem Ov_at (b : Bool) (j : Dev nD) (r : Fin 256) (e : Fin 32) :
    Ov I b j (ix3 0 r e) = gate (I.rw j) (fun k => I.x j (ix2 (row b r) k)) (I.ix j (ix2 (row b r) 0)) e := by
  rw [← pay2_at]
  cases b <;> unfold Ov <;> pointwise [k0_pay6, k0_pay8, k0_pay7] <;> simp [row]

/-- Expert `j` of the device's four applied to a token. -/
def expert (w : FVec Ideal S4x256x512 .f32) (j : Fin 4) (x : Fin 256 → EReal) (n : Fin 512) : EReal := ∑ k : Fin 256, x k * w (ix3 j k n)

set_option maxRecDepth 16384 in
/-- The product with the four experts' weights side by side holds the four experts' results side by side. -/
theorem pay11_at (w : Vec Ideal S4x256x512 .f32) (x : Vec Ideal S1x256x256 .bf16) (r : Fin 256) (j : Fin 4) (n : Fin 512) :
    k0_pay11 (k0_pay9 w) x (ix2 r ⟨512 * j.val + n.val, by omega⟩) = expert w j (fun k => x (ix3 0 r k)) n := by
  unfold expert
  pointwise [k0_pay11, k0_pay9]
  refine Finset.sum_congr rfl fun k _ => congrArg (x (ix3 0 r k) * ·) ?_
  have hn := n.isLt
  fin_vals j with hj <;> simp only [hj]
  · rw [dif_pos (by omega)]; congr 2 <;> apply Fin.ext <;> simp [hj]
  · rw [dif_neg (by omega), dif_pos (by omega)]; congr 2 <;> apply Fin.ext <;> simp [hj]
  · rw [dif_neg (by omega), dif_neg (by omega), dif_pos (by omega)]; congr 2 <;> apply Fin.ext <;> simp [hj] <;> omega
  · rw [dif_neg (by omega), dif_neg (by omega), dif_neg (by omega)]; congr 2 <;> apply Fin.ext <;> simp [hj] <;> omega

/-- The sum over the lanes of what is kept of lane `e` is that lane. -/
theorem sum_lane (f : Fin 32 → EReal) (e : Fin 32) (i : BitVec 32) (hi : i = BitVec.ofNat 32 e.val) :
    ∑ l : Fin 32, Scalar.select (IntOp.cmpi .eq (BitVec.ofNat 32 l.val) i) (f l) 0 = f e := by
  subst hi
  rw [Finset.sum_eq_single e]
  · simp [IntOp.cmpi, Scalar.select]
  · intro l _ hl
    have : BitVec.ofNat 32 l.val ≠ BitVec.ofNat 32 e.val := by
      intro h
      apply hl
      have := congrArg BitVec.toNat h
      simp at this
      omega
    have h' : (BitVec.ofNat 32 l.val == BitVec.ofNat 32 e.val) = false := beq_false_of_ne this
    simp [IntOp.cmpi, Scalar.select, h']
  · simp

/-- Lane `4 d + j`. -/
def lane (d : Dev nD) (j : Fin 4) : Fin 32 := ⟨4 * d.val + j.val, by have := d.isLt; simp only [nD] at this; omega⟩

/-- The words that the device compares the lanes with are its four lanes. -/
theorem word_lane : ∀ d : Dev nD, Scalar.addi (e0w d) 0#32 = BitVec.ofNat 32 (lane d 0).val
    ∧ Scalar.addi (e0w d) 1#32 = BitVec.ofNat 32 (lane d 1).val
    ∧ Scalar.addi (e0w d) 2#32 = BitVec.ofNat 32 (lane d 2).val
    ∧ Scalar.addi (e0w d) 3#32 = BitVec.ofNat 32 (lane d 3).val := by decide +kernel

set_option maxRecDepth 16384 in
/-- The part before the product is read. -/
theorem acc_at (d : Dev nD) (y : Vec Ideal S256x2048 .f32) (w : Vec Ideal S256x2048 .bf16) (x : Vec Ideal S1x256x256 .bf16)
    (hy : k0_pay11 w x = y) (o : Vec Ideal S1x256x32 .bf16) (r : Fin 256) (n : Fin 512) :
    hAcc d w x o (ix3 0 r n) = ∑ j : Fin 4, o (ix3 0 r (lane d j)) * y (ix2 r ⟨512 * j.val + n.val, by omega⟩) := by
  obtain ⟨h0, h1, h2, h3⟩ := word_lane d
  unfold hAcc k0_pay12
  rw [hy]
  pointwise [k0_pay14, k0_pay13, k0_pay10, lanes]
  simp only [h0, h1, h2, h3]
  rw [sum_lane _ _ _ rfl, sum_lane _ _ _ rfl, sum_lane _ _ _ rfl, sum_lane _ _ _ rfl, Fin.sum_univ_four]
  simp

/-- A device's part of a token's result: its four experts', each times its gate. -/
theorem hAcc_at (d : Dev nD) (w : Vec Ideal S4x256x512 .f32) (x : Vec Ideal S1x256x256 .bf16) (o : Vec Ideal S1x256x32 .bf16) (r : Fin 256) (n : Fin 512) :
    hAcc d (k0_pay9 w) x o (ix3 0 r n) = ∑ j : Fin 4, o (ix3 0 r (lane d j)) * expert w j (fun k => x (ix3 0 r k)) n := by
  rw [acc_at d _ _ _ rfl]
  exact Finset.sum_congr rfl fun j _ => congrArg _ (pay11_at ..)

/-- Rounding changes nothing over the reals. -/
theorem hAb_eq (d : Dev nD) (w : Vec Ideal S256x2048 .bf16) (x : Vec Ideal S1x256x256 .bf16) (o : Vec Ideal S1x256x32 .bf16) :
    (hAb d w x o : S1x256x512.Idx → EReal) = hAcc d w x o := rfl

set_option maxRecDepth 16384 in
/-- The part received is added. -/
theorem pAb_at (a : Vec Ideal S1x256x512 .f32) (q : Vec Ideal S1x256x512 .bf16) (r : Fin 256) (n : Fin 512) :
    pAb a q (ix3 0 r n) = a (ix3 0 r n) + q (ix3 0 r n) := by
  pointwise [pAb, k0_pay48, k0_pay46]

/-- What device `d`'s experts add to the token in row `r` of half `b` of device `j`. -/
def share (b : Bool) (d j : Dev nD) (r : Fin 256) (n : Fin 512) : EReal :=
  ∑ i : Fin 4, gate (I.rw j) (fun k => I.x j (ix2 (row b r) k)) (I.ix j (ix2 (row b r) 0)) (lane d i)
    * expert (I.ew d) i (fun k => I.x j (ix2 (row b r) k)) n

/-- The partial sum of device `d`'s experts for device `j`'s tokens is their share. -/
theorem Av_at (b : Bool) (d j : Dev nD) (r : Fin 256) (n : Fin 512) : Av I b d j (ix3 0 r n) = share I b d j r n := by
  unfold Av share
  rw [hAcc_at]
  simp only [Ov_at, Xv_at]

/-- Its copy for the ring is the same share. -/
theorem Bv_at (b : Bool) (d j : Dev nD) (r : Fin 256) (n : Fin 512) : Bv I b d j (ix3 0 r n) = share I b d j r n := by
  rw [← Av_at]; unfold Bv Av; rw [hAb_eq]

/-- The device `s` places back from `d` against direction `b`. -/
def back (b : Bool) : ℕ → Dev nD → Dev nD
  | 0, d => d
  | s + 1, d => back b s (nx (!b) d)

/-- The partial sum sent at stage `s`: what the last `s + 1` devices add to the same tokens. -/
theorem Sv_at (b : Bool) (r : Fin 256) (n : Fin 512) (s : ℕ) : s < 7 → ∀ d j, j = jn b d s →
    Sv I b s d (ix3 0 r n) = ∑ t ∈ Finset.range (s + 1), share I b (back b t d) j r n := by
  induction s with
  | zero => intro _ d j hj; subst hj; simp [Sv, Bv_at, back]
  | succ s ih =>
    intro hs d j hj
    subst hj
    rw [Finset.sum_range_succ']
    unfold Sv
    rw [pAb_at, Av_at, ih (by omega) (nx (!b) d) (jn b d (s + 1)) ?_, add_comm]
    · rfl
    · exact sl_succ b (nx (!b) d) s

set_option maxRecDepth 16384 in
/-- A device's result: its own experts' part, the part received, and the shared product. -/
theorem outH_at (b : Bool) (d : Dev nD) (r : Fin 256) (n : Fin 512) : outH I b d (ix2 r n)
    = share I b d d r n + Sv I b 6 (nx (!b) d) (ix3 0 r n) + ∑ k : Fin 256, I.x d (ix2 (row b r) k) * I.sw d (ix2 k n) := by
  rw [← Av_at]
  cases b <;> unfold outH <;> pointwise [k0_pay162, k0_pay163, k0_pay161, k0_pay1] <;> simp [row]

/-- Going back eight times meets each device once. -/
theorem back_bij : ∀ (b : Bool) (d : Dev nD), Function.Bijective fun t : Fin 8 => back b t.val d := by decide +kernel
/-- After seven joins the sum is back at the device whose tokens it is for. -/
theorem jn_six : ∀ (b : Bool) (d : Dev nD), d = jn b (nx (!b) d) 6 := by decide +kernel

/-- So it is what the eight devices add, and the shared product. -/
theorem outH_sum (b : Bool) (d : Dev nD) (r : Fin 256) (n : Fin 512) : outH I b d (ix2 r n)
    = ∑ k : Fin 256, I.x d (ix2 (row b r) k) * I.sw d (ix2 k n) + ∑ c : Dev nD, share I b c d r n := by
  rw [outH_at, Sv_at I b r n 6 (by omega) _ d (jn_six b d), add_comm]
  congr 1
  rw [← (back_bij b d).sum_comp, ← Finset.sum_range fun t => share I b (back b t d) d r n, Finset.sum_range_succ' _ 7, add_comm]
  rfl

end Cert.MoE
-- ==== Proof.Reference.lean ====
module

public import proofs.«01_k».proof.Proof.Gate
public import proofs.«01_k».proof.Proof.Gen.ReferenceIdeal.Run

/-! # The reference's result, entry by entry -/

@[expose] public section

noncomputable section

namespace Cert.MoE

open Idealize.ShloMosaic Cert.ReferenceIdeal Cert.ReferenceIdeal.Gen

variable (X : FVec Ideal S4096x256 .f32) (rw : FVec Ideal S256x32 .f32) (IX : IVec S4096x1 32) (EW : FVec Ideal S32x256x512 .f32)
  (sw : FVec Ideal S256x512 .f32)

/-- The reference's gates: each expert's share of the exponentials where the token is sent to it, else zero; -/
def refGate : FVec Ideal S4096x32 .f32 :=
  select (cmpi .eq (broadcastInDim S4096x32 ![0, 1] bcast_S4096x1_S4096x32_0_1 IX) (broadcastInDim S4096x32 ![0, 1] bcast_S1x32_S4096x32_0_1 (broadcastInDim S1x32 ![1] bcast_S32_S1x32_1 (iotaInDim S32 32 0)))) (Host.divf (Host.exp (subf (Host.dotGeneral dot_S4096x256_S256x32_S4096x32_1_0_0_1_n_n none X rw) (broadcastInDim S4096x32 ![0, 1] bcast_S4096x1_S4096x32_0_1 (broadcastInDim S4096x1 ![0] bcast_S4096_S4096x1_0 (Host.reduce FloatOps.maximumf (Host.dotGeneral dot_S4096x256_S256x32_S4096x32_1_0_0_1_n_n none X rw) (constant S_ .f32 0xFF800000#32) reducesTo_S4096x32_S4096_d1 h_S_))))) (broadcastInDim S4096x32 ![0, 1] bcast_S4096x1_S4096x32_0_1 (broadcastInDim S4096x1 ![0] bcast_S4096_S4096x1_0 (Host.reduceAdd (Host.exp (subf (Host.dotGeneral dot_S4096x256_S256x32_S4096x32_1_0_0_1_n_n none X rw) (broadcastInDim S4096x32 ![0, 1] bcast_S4096x1_S4096x32_0_1 (broadcastInDim S4096x1 ![0] bcast_S4096_S4096x1_0 (Host.reduce FloatOps.maximumf (Host.dotGeneral dot_S4096x256_S256x32_S4096x32_1_0_0_1_n_n none X rw) (constant S_ .f32 0xFF800000#32) reducesTo_S4096x32_S4096_d1 h_S_))))) (constant S_ .f32 0x00000000#32) reducesTo_S4096x32_S4096_d1 h_S_)))) (broadcastInDim S4096x32 ![] bcast_S_S4096x32 (id (constant S_ .f32 0x00000000#32)))

/-- and its result: the shared product and the experts' results, each times its gate. -/
def refOut : FVec Ideal S4096x512 .f32 :=
  addf (Host.dotGeneral dot_S4096x256_S256x512_S4096x512_1_0_0_1_n_n none X sw) (Host.reduceAdd (mulf (broadcastInDim S4096x32x512 ![0, 1, 2] bcast_S4096x32x1_S4096x32x512_0_1_2 (broadcastInDim S4096x32x1 ![0, 1] bcast_S4096x32_S4096x32x1_0_1 (refGate X rw IX))) (Host.dotGeneral dot_S4096x256_S32x256x512_S4096x32x512_1_1_0_02_n_n none X EW)) (constant S_ .f32 0x00000000#32) reducesTo_S4096x32x512_S4096x512_d1 h_S_)

/-- Whether two words are equal does not depend on their order. -/
theorem eq_word (a b : BitVec 32) : IntOp.cmpi .eq a b = IntOp.cmpi .eq b a := by simp [IntOp.cmpi, Bool.beq_comm]

set_option maxRecDepth 16384 in
/-- The reference's gate is the gate of the token's row. -/
theorem refGate_at (t : Fin 4096) (e : Fin 32) : refGate X rw IX (ix2 t e) = gate rw (fun k => X (ix2 t k)) (IX (ix2 t 0)) e := by
  unfold gate top score
  rw [eq_word]
  pointwise [refGate]
  exact congrArg (Scalar.select _ _) Ideal.ofBits_zero_f32

set_option maxRecDepth 16384 in
/-- The reference's result of token `t`. -/
theorem refOut_at (t : Fin 4096) (n : Fin 512) : refOut X rw IX EW sw (ix2 t n)
    = ∑ k : Fin 256, X (ix2 t k) * sw (ix2 k n)
      + ∑ e : Fin 32, gate rw (fun k => X (ix2 t k)) (IX (ix2 t 0)) e * ∑ k : Fin 256, X (ix2 t k) * EW (ix3 e k n) := by
  simp only [← refGate_at]
  pointwise [refOut]

end Cert.MoE
-- ==== Proof.Algebraic.lean ====
module

public import proofs.«01_k».proof.Proof.Frames
public import proofs.«01_k».proof.Proof.Gate
public import proofs.«01_k».proof.Proof.Reference

/-! # The kernel's result is the reference's -/

@[expose] public section

noncomputable section

namespace Cert.MoE

open Cert.KernelIdeal Cert.KernelIdeal.Gen
open Idealize.ShloMosaic Idealize.ShloMosaic.TcCoe Idealize.SL.Sem
open Idealize.ShloMosaic.Pipeline (Dat Cfg Window)

section
variable {F : FTy → Type} [FloatOps F] (m : (ℓ : Loc nD τ sig) → Buf (Elt F) ℓ) (ρ : Dev nD → PrngReg)

/-- Each operand's one block is the whole array. -/
theorem blk0 (c : Dev nD) : (insOf m).x c = m ((c : Thread nD τ).loc main_arg0) :=
  Memref.read_access_unit_zero (Elt F) main_arg0 (off := fun a => 0 * main_arg0.ty.shape.size a) (funext fun a => Nat.zero_mul _) (fun a => Nat.le_of_eq ((congrArg (· + _) (Nat.zero_mul _)).trans (Nat.zero_add _))) _
/-- The router's weights, whole. -/
theorem blk1 (c : Dev nD) : (insOf m).rw c = m ((c : Thread nD τ).loc main_arg1) :=
  Memref.read_access_unit_zero (Elt F) main_arg1 (off := fun a => 0 * main_arg1.ty.shape.size a) (funext fun a => Nat.zero_mul _) (fun a => Nat.le_of_eq ((congrArg (· + _) (Nat.zero_mul _)).trans (Nat.zero_add _))) _
/-- The tokens' expert numbers, whole. -/
theorem blk2 (c : Dev nD) : (insOf m).ix c = m ((c : Thread nD τ).loc main_arg2) :=
  Memref.read_access_unit_zero (Elt F) main_arg2 (off := fun a => 0 * main_arg2.ty.shape.size a) (funext fun a => Nat.zero_mul _) (fun a => Nat.le_of_eq ((congrArg (· + _) (Nat.zero_mul _)).trans (Nat.zero_add _))) _
/-- The device's experts' weights, whole. -/
theorem blk3 (c : Dev nD) : (insOf m).ew c = m ((c : Thread nD τ).loc main_arg3) :=
  Memref.read_access_unit_zero (Elt F) main_arg3 (off := fun a => 0 * main_arg3.ty.shape.size a) (funext fun a => Nat.zero_mul _) (fun a => Nat.le_of_eq ((congrArg (· + _) (Nat.zero_mul _)).trans (Nat.zero_add _))) _
/-- The shared weights, whole. -/
theorem blk4 (c : Dev nD) : (insOf m).sw c = m ((c : Thread nD τ).loc main_arg4) :=
  Memref.read_access_unit_zero (Elt F) main_arg4 (off := fun a => 0 * main_arg4.ty.shape.size a) (funext fun a => Nat.zero_mul _) (fun a => Nat.le_of_eq ((congrArg (· + _) (Nat.zero_mul _)).trans (Nat.zero_add _))) _

/-- The result array ends as the body's result: it is written once, whole. -/
theorem final_out (c : Dev nD) : finalA m ρ c (5 : Fin 6) = outAt (insOf m) c := by
  have h : ((cfg0.win (5 : Fin 6)).blk t0_0).view.read (Elt F) (finalA m ρ c (5 : Fin 6)) = outAt (insOf m) c := by
    unfold finalA
    rw [show cfg0.N = (t0_0 : Fin cfg0.N).val + 1 from rfl, (dats m ρ 0 c).arrAt_succ (5 : Fin 6) t0_0,
      show (cfg0.win (5 : Fin 6)).flush t0_0 = true from by decide, if_pos rfl]
    exact View.read_write_univ _ _
  exact (Memref.read_access_unit_zero (Elt F) main_v1 (off := fun a => 0 * main_v1.ty.shape.size a) (funext fun a => Nat.zero_mul _) (fun a => Nat.le_of_eq ((congrArg (· + _) (Nat.zero_mul _)).trans (Nat.zero_add _))) _).symm.trans h
end

/-- Each row lies in one of the two halves. -/
theorem row_cases (t : Fin 512) : ∃ b r, t = row b r := by
  by_cases h : t.val < 256
  · exact ⟨true, ⟨t.val, h⟩, Fin.ext (by simp [row])⟩
  · exact ⟨false, ⟨t.val - 256, by omega⟩, Fin.ext (by simp [row]; omega)⟩

/-- The result's row of a half is that half's row. -/
theorem outAt_row (I : Ins Ideal) (c : Dev nD) (b : Bool) (r : Fin 256) (n : Fin 512) :
    outAt I c (ix2 (row b r) n) = outH I b c (ix2 r n) := by
  rw [← outAt_emb]
  congr 1
  funext a
  apply Fin.ext
  cases b <;> fin_cases a <;> simp [outR, row]

/-- Row `t` of device `c`, among all tokens. -/
def token (c : Dev nD) (t : Fin 512) : Fin 4096 := ⟨c.val * 512 + t.val, by have := c.isLt; simp only [nD] at this; omega⟩

/-- The lanes of all devices are all the lanes. -/
theorem sum_lanes (f : Fin 32 → EReal) : ∑ c : Dev nD, ∑ i : Fin 4, f (lane c i) = ∑ e : Fin 32, f e := by
  rw [← (finProdFinEquiv (m := 8) (n := 4)).sum_comp, Fintype.sum_prod_type]
  refine Finset.sum_congr rfl fun c _ => Finset.sum_congr rfl fun i _ => congrArg f (Fin.ext ?_)
  simp [lane, finProdFinEquiv]
  omega

/-- A device's tokens are its block of all tokens. -/
theorem block_x (X : (⟨2, ![4096, 256]⟩ : Shape).Idx → EReal) (c : Dev nD) (t : Fin 512) (k : Fin 256) :
    (Layout.block ⟨2, ![512, 256]⟩ ⟨2, ![4096, 256]⟩ 0 8 c X) (ix2 t k) = X (ix2 (token c t) k) := by
  refine congrArg X (funext fun a => Fin.ext ?_)
  rw [Layout.Tiles.idx_val]
  fin_cases a <;> rfl
/-- A device's expert numbers are its block of all expert numbers. -/
theorem block_ix (X : (⟨2, ![4096, 1]⟩ : Shape).Idx → BitVec 32) (c : Dev nD) (t : Fin 512) :
    (Layout.block ⟨2, ![512, 1]⟩ ⟨2, ![4096, 1]⟩ 0 8 c X) (ix2 t 0) = X (ix2 (token c t) 0) := by
  refine congrArg X (funext fun a => Fin.ext ?_)
  rw [Layout.Tiles.idx_val]
  fin_cases a <;> rfl
/-- A device's four experts are its four lanes of all experts. -/
theorem block_ew (X : (⟨3, ![32, 256, 512]⟩ : Shape).Idx → EReal) (c : Dev nD) (i : Fin 4) (k : Fin 256) (n : Fin 512) :
    (Layout.block ⟨3, ![4, 256, 512]⟩ ⟨3, ![32, 256, 512]⟩ 0 8 c X) (ix3 i k n) = X (ix3 (lane c i) k n) := by
  refine congrArg X (funext fun a => Fin.ext ?_)
  rw [Layout.Tiles.idx_val]
  fin_cases a
  · exact congrArg (· + i.val) (Nat.mul_comm _ _)
  · rfl
  · rfl
/-- A device's block of a result is the rows of its tokens. -/
theorem block_out (X : (⟨2, ![4096, 512]⟩ : Shape).Idx → EReal) (c : Dev nD) (t : Fin 512) (n : Fin 512) :
    (Layout.block ⟨2, ![512, 512]⟩ ⟨2, ![4096, 512]⟩ 0 8 c X) (ix2 t n) = X (ix2 (token c t) n) := by
  refine congrArg X (funext fun a => Fin.ext ?_)
  rw [Layout.Tiles.idx_val]
  fin_cases a <;> rfl

/-- Where each device holds its blocks of the whole arrays, its result is its block of the reference's result. -/
theorem outAt_block (I : Ins Ideal) (X : FVec Ideal Cert.ReferenceIdeal.S4096x256 .f32) (rw : FVec Ideal Cert.ReferenceIdeal.S256x32 .f32)
    (IX : IVec Cert.ReferenceIdeal.S4096x1 32) (EW : FVec Ideal Cert.ReferenceIdeal.S32x256x512 .f32) (sw : FVec Ideal Cert.ReferenceIdeal.S256x512 .f32)
    (hx : ∀ c, I.x c = Layout.block ⟨2, ![512, 256]⟩ ⟨2, ![4096, 256]⟩ 0 8 c X) (hr : ∀ c, I.rw c = rw)
    (hi : ∀ c, I.ix c = Layout.block ⟨2, ![512, 1]⟩ ⟨2, ![4096, 1]⟩ 0 8 c IX)
    (he : ∀ c, I.ew c = Layout.block ⟨3, ![4, 256, 512]⟩ ⟨3, ![32, 256, 512]⟩ 0 8 c EW) (hs : ∀ c, I.sw c = sw) (c : Dev nD) :
    outAt I c = Layout.block ⟨2, ![512, 512]⟩ ⟨2, ![4096, 512]⟩ 0 8 c (refOut X rw IX EW sw) := by
  funext p
  obtain ⟨t, n, rfl⟩ : ∃ (t : Fin 512) (n : Fin 512), p = ix2 t n := ⟨p 0, p 1, by funext a; fin_cases a <;> rfl⟩
  obtain ⟨b, r, rfl⟩ := row_cases t
  rw [outAt_row, outH_sum, block_out, refOut_at, ← sum_lanes]
  have ex : ∀ k : Fin 256, I.x c (ix2 (row b r) k) = X (ix2 (token c (row b r)) k) := fun k => by rw [hx]; exact block_x X c _ k
  have ei : I.ix c (ix2 (row b r) 0) = IX (ix2 (token c (row b r)) 0) := by rw [hi]; exact block_ix IX c _
  have ee : ∀ (d : Dev nD) (i : Fin 4) (k : Fin 256), I.ew d (ix3 i k n) = EW (ix3 (lane d i) k n) := fun d i k => by rw [he]; exact block_ew EW d i k n
  unfold share expert
  simp only [ex, ei, ee, hr, hs]

set_option maxRecDepth 20000 in
/-- Over the extended reals, where each device holds its blocks of the reference's arrays, every run of the kernel ends with
    each device's result its block of the reference's result. -/
theorem algebraic : Cert.algebraic_KernelIdeal_ReferenceIdeal (hKernelIdeal := Cert.KernelIdeal.Gen.facts) (hReferenceIdeal := Cert.ReferenceIdeal.Gen.facts) := by
  intro m g m' g' _ hagree
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  · refine (θ_run Cert.KernelIdeal.defs _ _).mono (fun _ h c => ⟨((h.1 c (5 : Fin 6)).trans (final_out m g c)).trans ?_, frame_of h.1 c⟩) (run_main (F := Ideal) m g)
    exact outAt_block (insOf m) _ _ _ _ _ (fun d => (blk0 m d).trans (hagree d).1) (fun d => (blk1 m d).trans (hagree d).2.1)
      (fun d => (blk2 m d).trans (hagree d).2.2.1) (fun d => (blk3 m d).trans (hagree d).2.2.2.1) (fun d => (blk4 m d).trans (hagree d).2.2.2.2) c
  · exact (θ_run Cert.ReferenceIdeal.defs _ _).mono (fun _ h => h 0) (Cert.ReferenceIdeal.Value.run (F := Ideal) m' g')

end Cert.MoE
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.MoE.frame_kernel, Cert.MoE.frame_ideal, Cert.MoE.frame_reference, trivial, Cert.MoE.algebraic⟩

end Cert.Proof

end
